-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_slot_words [hPre_slot_words : Cert.Pre_slot_words.Facts] (m : (ℓ : Loc Cert.PrepIdeal.nD Cert.PrepIdeal.τ Cert.PrepIdeal.sig) → Buf (Elt Ideal) ℓ) : Prop :=
  ∀ c : Dev Cert.PrepIdeal.nD,
    (Cert.Pre_slot_words.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_slot_words [hPre_slot_words : Cert.Pre_slot_words.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_slot_words.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepIdeal_pre_slot_words [hPrepIdeal : Cert.PrepIdeal.Facts] [hPre_slot_words : Cert.Pre_slot_words.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_slot_words m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3))
      ∧ r.2.sem = fun _ => 0)

def quiescent_PrepReferenceIdeal_pre_slot_words [hPrepReferenceIdeal : Cert.PrepReferenceIdeal.Facts] [hPre_slot_words : Cert.Pre_slot_words.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_slot_words m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Prep_PrepIdeal : Prop :=
  True

def algebraic_PrepIdeal_PrepReferenceIdeal_pre_slot_words [hPrepIdeal : Cert.PrepIdeal.Facts] [hPrepReferenceIdeal : Cert.PrepReferenceIdeal.Facts] [hPre_slot_words : Cert.Pre_slot_words.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal_slot_words m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v12)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v12) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v46) = v0 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts) (hPre_slot_words : Cert.Pre_slot_words.Facts),
    quiescent_Kernel (hKernel := hKernel)
    ∧ quiescent_KernelIdeal (hKernelIdeal := hKernelIdeal)
    ∧ quiescent_ReferenceIdeal (hReferenceIdeal := hReferenceIdeal)
    ∧ quiescent_Prep (hPrep := hPrep)
    ∧ quiescent_PrepIdeal (hPrepIdeal := hPrepIdeal)
    ∧ quiescent_PrepIdeal_pre_slot_words (hPrepIdeal := hPrepIdeal) (hPre_slot_words := hPre_slot_words)
    ∧ quiescent_PrepReferenceIdeal (hPrepReferenceIdeal := hPrepReferenceIdeal)
    ∧ quiescent_PrepReferenceIdeal_pre_slot_words (hPrepReferenceIdeal := hPrepReferenceIdeal) (hPre_slot_words := hPre_slot_words)
    ∧ preserves_Kernel_KernelIdeal
    ∧ algebraic_KernelIdeal_ReferenceIdeal (hKernelIdeal := hKernelIdeal) (hReferenceIdeal := hReferenceIdeal)
    ∧ preserves_Prep_PrepIdeal
    ∧ algebraic_PrepIdeal_PrepReferenceIdeal_pre_slot_words (hPrepIdeal := hPrepIdeal) (hPrepReferenceIdeal := hPrepReferenceIdeal) (hPre_slot_words := hPre_slot_words)
-- ==== Pre_slot_words.lean ====
abbrev S9728x1280 : Shape := ⟨2, ![9728, 1280]⟩
abbrev S9728x160 : Shape := ⟨2, ![9728, 160]⟩
abbrev S76x80x128 : Shape := ⟨3, ![76, 80, 128]⟩
abbrev S_ : Shape := ⟨0, ![]⟩

class Facts : Prop where
  bcast_S_S9728x160 : S_.BroadcastsInDim S9728x160 (![] : Fin 0 → Fin S9728x160.rank)
  reducesTo_S9728x160_S_d0_1 : S9728x160.ReducesTo [0, 1] S_
  h_S_ : 0 < S_.numel
  bcast_S_S76x80x128 : S_.BroadcastsInDim S76x80x128 (![] : Fin 0 → Fin S76x80x128.rank)
  reducesTo_S76x80x128_S_d0_1_2 : S76x80x128.ReducesTo [0, 1, 2] S_

variable [Facts]

def fn {F : FTy → Type} [FloatOps F] (main_arg0 : IVec S9728x1280 8) (main_arg1 : IVec S9728x160 16) (main_arg2 : IVec S9728x160 8) (main_arg3 : IVec S76x80x128 32) : IVec S_ 1 :=
  let main_c : IVec S_ 8 := constantI S_ 8 128#8
  let main_v0 : IVec S9728x160 8 := broadcastInDim S9728x160 ![] bcast_S_S9728x160 main_c
  let main_v1 : IVec S9728x160 1 := cmpi .ule main_arg2 main_v0
  let main_c_0 : IVec S_ 1 := constantI S_ 1 1#1
  let main_v2 : IVec S_ 1 := (fun x v => Host.reduce IntOp.andi x v reducesTo_S9728x160_S_d0_1 h_S_) main_v1 main_c_0
  let main_c_1 : IVec S_ 32 := constantI S_ 32 16#32
  let main_v3 : IVec S76x80x128 32 := broadcastInDim S76x80x128 ![] bcast_S_S76x80x128 main_c_1
  let main_v4 : IVec S76x80x128 32 := Host.shrui main_arg3 main_v3
  let main_c_2 : IVec S_ 32 := constantI S_ 32 65535#32
  let main_v5 : IVec S76x80x128 32 := broadcastInDim S76x80x128 ![] bcast_S_S76x80x128 main_c_2
  let main_v6 : IVec S76x80x128 32 := andi main_arg3 main_v5
  let main_v7 : IVec S76x80x128 1 := cmpi .eq main_v4 main_v6
  let main_c_3 : IVec S_ 1 := constantI S_ 1 1#1
  let main_v8 : IVec S_ 1 := (fun x v => Host.reduce IntOp.andi x v reducesTo_S76x80x128_S_d0_1_2 h_S_) main_v7 main_c_3
  let main_v9 : IVec S_ 1 := andi main_v2 main_v8
  main_v9
-- ==== Kernel.lean ====
abbrev S6x2048x2560 : Shape := ⟨3, ![6, 2048, 2560]⟩
abbrev S2560x9728 : Shape := ⟨2, ![2560, 9728]⟩
abbrev S12288x2560 : Shape := ⟨2, ![12288, 2560]⟩
abbrev S12288x9728 : Shape := ⟨2, ![12288, 9728]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S6x2048x2560, .bf16⟩
  | .hbm, ⟨1, _⟩ => ⟨S2560x9728, .bf16⟩
  | .hbm, ⟨2, _⟩ => ⟨S12288x2560, .bf16⟩
  | .hbm, ⟨3, _⟩ => ⟨S12288x9728, .bf16⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .bf16⟩
  | .local _ .vmem, ⟨5, _⟩ => ⟨S1024x1024, .bf16⟩
  | _, _ => ⟨S6x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S6x2048x2560 : Shape := ⟨3, ![6, 2048, 2560]⟩
abbrev S2560x9728 : Shape := ⟨2, ![2560, 9728]⟩
abbrev S6x2048x9728 : Shape := ⟨3, ![6, 2048, 9728]⟩
abbrev S12288x9728 : Shape := ⟨2, ![12288, 9728]⟩

abbrev nBuf : Space → Nat
  | .hbm => 5
  | .vmem => 0
  | .smem => 0
  | _ => 0

abbrev bufTy : (tb : Table) → Fin (tcTables nBuf tb) → BufTy
  | .hbm, ⟨0, _⟩ => ⟨S6x2048x2560, .bf16⟩
  | .hbm, ⟨1, _⟩ => ⟨S2560x9728, .bf16⟩
  | .hbm, ⟨2, _⟩ => ⟨S6x2048x9728, .f32⟩
  | .hbm, ⟨3, _⟩ => ⟨S6x2048x9728, .bf16⟩
  | .hbm, ⟨4, _⟩ => ⟨S12288x9728, .bf16⟩
  | _, _ => ⟨S6x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Prep.lean ====
abbrev S9728x1280 : Shape := ⟨2, ![9728, 1280]⟩
abbrev S9728x160 : Shape := ⟨2, ![9728, 160]⟩
abbrev S76x80x128 : Shape := ⟨3, ![76, 80, 128]⟩
abbrev S160x9728 : Shape := ⟨2, ![160, 9728]⟩
abbrev S_ : Shape := ⟨0, ![]⟩
abbrev S2560x9728 : Shape := ⟨2, ![2560, 9728]⟩
abbrev S128x1280 : Shape := ⟨2, ![128, 1280]⟩
abbrev S160x128 : Shape := ⟨2, ![160, 128]⟩
abbrev S1x80x128 : Shape := ⟨3, ![1, 80, 128]⟩
abbrev S2560x128 : Shape := ⟨2, ![2560, 128]⟩
abbrev S16x128 : Shape := ⟨2, ![16, 128]⟩
abbrev S128x128 : Shape := ⟨2, ![128, 128]⟩
abbrev S8x128 : Shape := ⟨2, ![8, 128]⟩
abbrev S1x128 : Shape := ⟨2, ![1, 128]⟩
abbrev S1x1x128 : Shape := ⟨3, ![1, 1, 128]⟩

abbrev nBuf : Space → Nat
  | .hbm => 20
  | .vmem => 10
  | .smem => 0
  | _ => 0

abbrev bufTy : (tb : Table) → Fin (tcTables nBuf tb) → BufTy
  | .hbm, ⟨0, _⟩ => ⟨S9728x1280, .i8⟩
  | .hbm, ⟨1, _⟩ => ⟨S9728x160, .i16⟩
  | .hbm, ⟨2, _⟩ => ⟨S9728x160, .i8⟩
  | .hbm, ⟨3, _⟩ => ⟨S76x80x128, .i32⟩
  | .hbm, ⟨4, _⟩ => ⟨S160x9728, .i16⟩
  | .hbm, ⟨5, _⟩ => ⟨S160x9728, .i32⟩
  | .hbm, ⟨6, _⟩ => ⟨S_, .i32⟩
  | .hbm, ⟨7, _⟩ => ⟨S160x9728, .i32⟩
  | .hbm, ⟨8, _⟩ => ⟨S160x9728, .i32⟩
  | .hbm, ⟨9, _⟩ => ⟨S160x9728, .i32⟩
  | .hbm, ⟨10, _⟩ => ⟨S160x9728, .i8⟩
  | .hbm, ⟨11, _⟩ => ⟨S160x9728, .i32⟩
  | .hbm, ⟨12, _⟩ => ⟨S_, .i32⟩
  | .hbm, ⟨13, _⟩ => ⟨S160x9728, .i32⟩
  | .hbm, ⟨14, _⟩ => ⟨S160x9728, .i32⟩
  | .hbm, ⟨15, _⟩ => ⟨S_, .i32⟩
  | .hbm, ⟨16, _⟩ => ⟨S160x9728, .i32⟩
  | .hbm, ⟨17, _⟩ => ⟨S160x9728, .i32⟩
  | .hbm, ⟨18, _⟩ => ⟨S160x9728, .i32⟩
  | .hbm, ⟨19, _⟩ => ⟨S2560x9728, .bf16⟩
  | .local _ .vmem, ⟨0, _⟩ => ⟨S128x1280, .i8⟩
  | .local _ .vmem, ⟨1, _⟩ => ⟨S128x1280, .i8⟩
  | .local _ .vmem, ⟨2, _⟩ => ⟨S160x128, .i32⟩
  | .local _ .vmem, ⟨3, _⟩ => ⟨S160x128, .i32⟩
  | .local _ .vmem, ⟨4, _⟩ => ⟨S160x128, .i32⟩
  | .local _ .vmem, ⟨5, _⟩ => ⟨S160x128, .i32⟩
  | .local _ .vmem, ⟨6, _⟩ => ⟨S1x80x128, .i32⟩
  | .local _ .vmem, ⟨7, _⟩ => ⟨S1x80x128, .i32⟩
  | .local _ .vmem, ⟨8, _⟩ => ⟨S2560x128, .bf16⟩
  | .local _ .vmem, ⟨9, _⟩ => ⟨S2560x128, .bf16⟩
  | _, _ => ⟨S9728x1280, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![76], ![false]⟩

@[reducible] def k0_t1_loop : Scf.Loop 32 :=
  let c0_i32 : BitVec 32 := 0#32
  let c10_i32 : BitVec 32 := 10#32
  let v1 : BitVec 32 := Scalar.addi c0_i32 c10_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v2 : BitVec 32 := Scalar.muli arg6 c128_i32
  v2
def k0_off1 (k0_t1 : Fin k0_t1_loop.trips) : Fin 2 → Nat :=
  let c0 : Index := 0#32
  let c0_i32 : BitVec 32 := 0#32
  let c1_i32 : BitVec 32 := 1#32
  let arg6 : BitVec 32 := Scf.iv c0_i32 c1_i32 k0_t1
  let c128_i32 : BitVec 32 := 128#32
  let v2 : BitVec 32 := Scalar.muli arg6 c128_i32
  let v3 : BitVec 32 := v2
  let v4 : Index := Scalar.indexCast v3
  ![0, v4.toNat]
def k0_off2 (k0_t1 : Fin k0_t1_loop.trips) (c0_i32_1 : BitVec 32) : Fin 2 → Nat :=
  let c0_i32 : BitVec 32 := 0#32
  let c1_i32 : BitVec 32 := 1#32
  let arg6 : BitVec 32 := Scf.iv c0_i32 c1_i32 k0_t1
  let c16_i32 : BitVec 32 := 16#32
  let v18 : BitVec 32 := Scalar.muli arg6 c16_i32
  let v19 : BitVec 32 := Scalar.addi v18 c0_i32_1
  let v20 : Index := Scalar.indexCast v19
  let c0_2 : Index := 0#32
  ![v20.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32 : BitVec 32 := 16#32
  let v18 : BitVec 32 := Scalar.muli arg6 c16_i32
  let c0_i32_1 : BitVec 32 := 0#32
  let v19 : BitVec 32 := Scalar.addi v18 c0_i32_1
  let c16_i32_4 : BitVec 32 := 16#32
  let v35 : BitVec 32 := Scalar.muli v19 c16_i32_4
  v35
def k0_off3 (k0_t1 : Fin k0_t1_loop.trips) (c0_i32_1 : BitVec 32) : Fin 2 → Nat :=
  let c0_i32 : BitVec 32 := 0#32
  let c1_i32 : BitVec 32 := 1#32
  let arg6 : BitVec 32 := Scf.iv c0_i32 c1_i32 k0_t1
  let c16_i32 : BitVec 32 := 16#32
  let v18 : BitVec 32 := Scalar.muli arg6 c16_i32
  let v19 : BitVec 32 := Scalar.addi v18 c0_i32_1
  let c16_i32_4 : BitVec 32 := 16#32
  let v35 : BitVec 32 := Scalar.muli v19 c16_i32_4
  let v36 : BitVec 32 := v35
  let v37 : Index := Scalar.indexCast v36
  let c0_5 : Index := 0#32
  ![v37.toNat, 0]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_10 : BitVec 32 := 16#32
  let v49 : BitVec 32 := Scalar.muli arg6 c16_i32_10
  let c1_i32_11 : BitVec 32 := 1#32
  let v50 : BitVec 32 := Scalar.addi v49 c1_i32_11
  let c16_i32_14 : BitVec 32 := 16#32
  let v66 : BitVec 32 := Scalar.muli v50 c16_i32_14
  v66
def k0_mult4 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_20 : BitVec 32 := 16#32
  let v80 : BitVec 32 := Scalar.muli arg6 c16_i32_20
  let c2_i32 : BitVec 32 := 2#32
  let v81 : BitVec 32 := Scalar.addi v80 c2_i32
  let c16_i32_23 : BitVec 32 := 16#32
  let v97 : BitVec 32 := Scalar.muli v81 c16_i32_23
  v97
def k0_mult5 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_29 : BitVec 32 := 16#32
  let v111 : BitVec 32 := Scalar.muli arg6 c16_i32_29
  let c3_i32 : BitVec 32 := 3#32
  let v112 : BitVec 32 := Scalar.addi v111 c3_i32
  let c16_i32_32 : BitVec 32 := 16#32
  let v128 : BitVec 32 := Scalar.muli v112 c16_i32_32
  v128
def k0_mult6 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_38 : BitVec 32 := 16#32
  let v142 : BitVec 32 := Scalar.muli arg6 c16_i32_38
  let c4_i32 : BitVec 32 := 4#32
  let v143 : BitVec 32 := Scalar.addi v142 c4_i32
  let c16_i32_41 : BitVec 32 := 16#32
  let v159 : BitVec 32 := Scalar.muli v143 c16_i32_41
  v159
def k0_mult7 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_47 : BitVec 32 := 16#32
  let v173 : BitVec 32 := Scalar.muli arg6 c16_i32_47
  let c5_i32 : BitVec 32 := 5#32
  let v174 : BitVec 32 := Scalar.addi v173 c5_i32
  let c16_i32_50 : BitVec 32 := 16#32
  let v190 : BitVec 32 := Scalar.muli v174 c16_i32_50
  v190
def k0_mult8 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_56 : BitVec 32 := 16#32
  let v204 : BitVec 32 := Scalar.muli arg6 c16_i32_56
  let c6_i32 : BitVec 32 := 6#32
  let v205 : BitVec 32 := Scalar.addi v204 c6_i32
  let c16_i32_59 : BitVec 32 := 16#32
  let v221 : BitVec 32 := Scalar.muli v205 c16_i32_59
  v221
def k0_mult9 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_65 : BitVec 32 := 16#32
  let v235 : BitVec 32 := Scalar.muli arg6 c16_i32_65
  let c7_i32 : BitVec 32 := 7#32
  let v236 : BitVec 32 := Scalar.addi v235 c7_i32
  let c16_i32_68 : BitVec 32 := 16#32
  let v252 : BitVec 32 := Scalar.muli v236 c16_i32_68
  v252
def k0_mult10 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_74 : BitVec 32 := 16#32
  let v266 : BitVec 32 := Scalar.muli arg6 c16_i32_74
  let c8_i32 : BitVec 32 := 8#32
  let v267 : BitVec 32 := Scalar.addi v266 c8_i32
  let c16_i32_77 : BitVec 32 := 16#32
  let v283 : BitVec 32 := Scalar.muli v267 c16_i32_77
  v283
def k0_mult11 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_83 : BitVec 32 := 16#32
  let v297 : BitVec 32 := Scalar.muli arg6 c16_i32_83
  let c9_i32 : BitVec 32 := 9#32
  let v298 : BitVec 32 := Scalar.addi v297 c9_i32
  let c16_i32_86 : BitVec 32 := 16#32
  let v314 : BitVec 32 := Scalar.muli v298 c16_i32_86
  v314
def k0_mult12 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_92 : BitVec 32 := 16#32
  let v328 : BitVec 32 := Scalar.muli arg6 c16_i32_92
  let c10_i32_93 : BitVec 32 := 10#32
  let v329 : BitVec 32 := Scalar.addi v328 c10_i32_93
  let c16_i32_96 : BitVec 32 := 16#32
  let v345 : BitVec 32 := Scalar.muli v329 c16_i32_96
  v345
def k0_mult13 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_102 : BitVec 32 := 16#32
  let v359 : BitVec 32 := Scalar.muli arg6 c16_i32_102
  let c11_i32 : BitVec 32 := 11#32
  let v360 : BitVec 32 := Scalar.addi v359 c11_i32
  let c16_i32_105 : BitVec 32 := 16#32
  let v376 : BitVec 32 := Scalar.muli v360 c16_i32_105
  v376
def k0_mult14 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_111 : BitVec 32 := 16#32
  let v390 : BitVec 32 := Scalar.muli arg6 c16_i32_111
  let c12_i32_112 : BitVec 32 := 12#32
  let v391 : BitVec 32 := Scalar.addi v390 c12_i32_112
  let c16_i32_115 : BitVec 32 := 16#32
  let v407 : BitVec 32 := Scalar.muli v391 c16_i32_115
  v407
def k0_mult15 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_121 : BitVec 32 := 16#32
  let v421 : BitVec 32 := Scalar.muli arg6 c16_i32_121
  let c13_i32 : BitVec 32 := 13#32
  let v422 : BitVec 32 := Scalar.addi v421 c13_i32
  let c16_i32_124 : BitVec 32 := 16#32
  let v438 : BitVec 32 := Scalar.muli v422 c16_i32_124
  v438
def k0_mult16 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_130 : BitVec 32 := 16#32
  let v452 : BitVec 32 := Scalar.muli arg6 c16_i32_130
  let c14_i32 : BitVec 32 := 14#32
  let v453 : BitVec 32 := Scalar.addi v452 c14_i32
  let c16_i32_133 : BitVec 32 := 16#32
  let v469 : BitVec 32 := Scalar.muli v453 c16_i32_133
  v469
def k0_mult17 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_139 : BitVec 32 := 16#32
  let v483 : BitVec 32 := Scalar.muli arg6 c16_i32_139
  let c15_i32_140 : BitVec 32 := 15#32
  let v484 : BitVec 32 := Scalar.addi v483 c15_i32_140
  let c16_i32_143 : BitVec 32 := 16#32
  let v500 : BitVec 32 := Scalar.muli v484 c16_i32_143
  v500
def k0_mult18 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v504 : BitVec 32 := Scalar.muli arg6 c256_i32
  let c0_i32_145 : BitVec 32 := 0#32
  let v505 : BitVec 32 := Scalar.addi v504 c0_i32_145
  let c0_i32_146 : BitVec 32 := 0#32
  let v506 : BitVec 32 := Scalar.addi v505 c0_i32_146
  v506
def k0_mult19 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_147 : BitVec 32 := 256#32
  let v508 : BitVec 32 := Scalar.muli arg6 c256_i32_147
  let c0_i32_148 : BitVec 32 := 0#32
  let v509 : BitVec 32 := Scalar.addi v508 c0_i32_148
  let c16_i32_149 : BitVec 32 := 16#32
  let v510 : BitVec 32 := Scalar.addi v509 c16_i32_149
  v510
def k0_mult20 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_150 : BitVec 32 := 256#32
  let v512 : BitVec 32 := Scalar.muli arg6 c256_i32_150
  let c0_i32_151 : BitVec 32 := 0#32
  let v513 : BitVec 32 := Scalar.addi v512 c0_i32_151
  let c32_i32 : BitVec 32 := 32#32
  let v514 : BitVec 32 := Scalar.addi v513 c32_i32
  v514
def k0_mult21 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_152 : BitVec 32 := 256#32
  let v516 : BitVec 32 := Scalar.muli arg6 c256_i32_152
  let c0_i32_153 : BitVec 32 := 0#32
  let v517 : BitVec 32 := Scalar.addi v516 c0_i32_153
  let c48_i32 : BitVec 32 := 48#32
  let v518 : BitVec 32 := Scalar.addi v517 c48_i32
  v518
def k0_mult22 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_154 : BitVec 32 := 256#32
  let v520 : BitVec 32 := Scalar.muli arg6 c256_i32_154
  let c0_i32_155 : BitVec 32 := 0#32
  let v521 : BitVec 32 := Scalar.addi v520 c0_i32_155
  let c64_i32 : BitVec 32 := 64#32
  let v522 : BitVec 32 := Scalar.addi v521 c64_i32
  v522
def k0_mult23 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_156 : BitVec 32 := 256#32
  let v524 : BitVec 32 := Scalar.muli arg6 c256_i32_156
  let c0_i32_157 : BitVec 32 := 0#32
  let v525 : BitVec 32 := Scalar.addi v524 c0_i32_157
  let c80_i32 : BitVec 32 := 80#32
  let v526 : BitVec 32 := Scalar.addi v525 c80_i32
  v526
def k0_mult24 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_158 : BitVec 32 := 256#32
  let v528 : BitVec 32 := Scalar.muli arg6 c256_i32_158
  let c0_i32_159 : BitVec 32 := 0#32
  let v529 : BitVec 32 := Scalar.addi v528 c0_i32_159
  let c96_i32 : BitVec 32 := 96#32
  let v530 : BitVec 32 := Scalar.addi v529 c96_i32
  v530
def k0_mult25 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_160 : BitVec 32 := 256#32
  let v532 : BitVec 32 := Scalar.muli arg6 c256_i32_160
  let c0_i32_161 : BitVec 32 := 0#32
  let v533 : BitVec 32 := Scalar.addi v532 c0_i32_161
  let c112_i32 : BitVec 32 := 112#32
  let v534 : BitVec 32 := Scalar.addi v533 c112_i32
  v534
def k0_off4 (k0_t1 : Fin k0_t1_loop.trips) (c0_i32_145 : BitVec 32) (c0_i32_146 : BitVec 32) : Fin 2 → Nat :=
  let c0_i32 : BitVec 32 := 0#32
  let c1_i32 : BitVec 32 := 1#32
  let arg6 : BitVec 32 := Scf.iv c0_i32 c1_i32 k0_t1
  let c256_i32 : BitVec 32 := 256#32
  let v504 : BitVec 32 := Scalar.muli arg6 c256_i32
  let v505 : BitVec 32 := Scalar.addi v504 c0_i32_145
  let v506 : BitVec 32 := Scalar.addi v505 c0_i32_146
  let v507 : BitVec 32 := v506
  let v536 : Index := Scalar.indexCast v507
  let c0_162 : Index := 0#32
  ![v536.toNat, 0]
def k0_mult26 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_363 : BitVec 32 := 256#32
  let v1664 : BitVec 32 := Scalar.muli arg6 c256_i32_363
  let c128_i32_364 : BitVec 32 := 128#32
  let v1665 : BitVec 32 := Scalar.addi v1664 c128_i32_364
  let c0_i32_365 : BitVec 32 := 0#32
  let v1666 : BitVec 32 := Scalar.addi v1665 c0_i32_365
  v1666
def k0_mult27 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_366 : BitVec 32 := 256#32
  let v1668 : BitVec 32 := Scalar.muli arg6 c256_i32_366
  let c128_i32_367 : BitVec 32 := 128#32
  let v1669 : BitVec 32 := Scalar.addi v1668 c128_i32_367
  let c16_i32_368 : BitVec 32 := 16#32
  let v1670 : BitVec 32 := Scalar.addi v1669 c16_i32_368
  v1670
def k0_mult28 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_369 : BitVec 32 := 256#32
  let v1672 : BitVec 32 := Scalar.muli arg6 c256_i32_369
  let c128_i32_370 : BitVec 32 := 128#32
  let v1673 : BitVec 32 := Scalar.addi v1672 c128_i32_370
  let c32_i32_371 : BitVec 32 := 32#32
  let v1674 : BitVec 32 := Scalar.addi v1673 c32_i32_371
  v1674
def k0_mult29 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_372 : BitVec 32 := 256#32
  let v1676 : BitVec 32 := Scalar.muli arg6 c256_i32_372
  let c128_i32_373 : BitVec 32 := 128#32
  let v1677 : BitVec 32 := Scalar.addi v1676 c128_i32_373
  let c48_i32_374 : BitVec 32 := 48#32
  let v1678 : BitVec 32 := Scalar.addi v1677 c48_i32_374
  v1678
def k0_mult30 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_375 : BitVec 32 := 256#32
  let v1680 : BitVec 32 := Scalar.muli arg6 c256_i32_375
  let c128_i32_376 : BitVec 32 := 128#32
  let v1681 : BitVec 32 := Scalar.addi v1680 c128_i32_376
  let c64_i32_377 : BitVec 32 := 64#32
  let v1682 : BitVec 32 := Scalar.addi v1681 c64_i32_377
  v1682
def k0_mult31 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_378 : BitVec 32 := 256#32
  let v1684 : BitVec 32 := Scalar.muli arg6 c256_i32_378
  let c128_i32_379 : BitVec 32 := 128#32
  let v1685 : BitVec 32 := Scalar.addi v1684 c128_i32_379
  let c80_i32_380 : BitVec 32 := 80#32
  let v1686 : BitVec 32 := Scalar.addi v1685 c80_i32_380
  v1686
def k0_mult32 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_381 : BitVec 32 := 256#32
  let v1688 : BitVec 32 := Scalar.muli arg6 c256_i32_381
  let c128_i32_382 : BitVec 32 := 128#32
  let v1689 : BitVec 32 := Scalar.addi v1688 c128_i32_382
  let c96_i32_383 : BitVec 32 := 96#32
  let v1690 : BitVec 32 := Scalar.addi v1689 c96_i32_383
  v1690
def k0_mult33 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_384 : BitVec 32 := 256#32
  let v1692 : BitVec 32 := Scalar.muli arg6 c256_i32_384
  let c128_i32_385 : BitVec 32 := 128#32
  let v1693 : BitVec 32 := Scalar.addi v1692 c128_i32_385
  let c112_i32_386 : BitVec 32 := 112#32
  let v1694 : BitVec 32 := Scalar.addi v1693 c112_i32_386
  v1694
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1280 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x80x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrepReferenceIdeal.lean ====
abbrev S9728x1280 : Shape := ⟨2, ![9728, 1280]⟩
abbrev S9728x160 : Shape := ⟨2, ![9728, 160]⟩
abbrev S76x80x128 : Shape := ⟨3, ![76, 80, 128]⟩
abbrev S_ : Shape := ⟨0, ![]⟩
abbrev S9728x1280x1 : Shape := ⟨3, ![9728, 1280, 1]⟩
abbrev S9728x1280x2 : Shape := ⟨3, ![9728, 1280, 2]⟩
abbrev S9728x160x16 : Shape := ⟨3, ![9728, 160, 16]⟩
abbrev S9728x160x1 : Shape := ⟨3, ![9728, 160, 1]⟩
abbrev S9728x2560 : Shape := ⟨2, ![9728, 2560]⟩
abbrev S76x128x80 : Shape := ⟨3, ![76, 128, 80]⟩
abbrev S9728x80 : Shape := ⟨2, ![9728, 80]⟩
abbrev S9728x40 : Shape := ⟨2, ![9728, 40]⟩
abbrev S9728 : Shape := ⟨1, ![9728]⟩
abbrev S9728x1 : Shape := ⟨2, ![9728, 1]⟩
abbrev S9728x40x1 : Shape := ⟨3, ![9728, 40, 1]⟩
abbrev S9728x40x2 : Shape := ⟨3, ![9728, 40, 2]⟩
abbrev S2560x9728 : Shape := ⟨2, ![2560, 9728]⟩

abbrev nBuf : Space → Nat
  | .hbm => 58
  | .vmem => 0
  | .smem => 0
  | _ => 0

abbrev bufTy : (tb : Table) → Fin (tcTables nBuf tb) → BufTy
  | .hbm, ⟨0, _⟩ => ⟨S9728x1280, .i8⟩
  | .hbm, ⟨1, _⟩ => ⟨S9728x160, .i16⟩
  | .hbm, ⟨2, _⟩ => ⟨S9728x160, .i8⟩
  | .hbm, ⟨3, _⟩ => ⟨S76x80x128, .i32⟩
  | .hbm, ⟨4, _⟩ => ⟨S9728x1280, .i32⟩
  | .hbm, ⟨5, _⟩ => ⟨S_, .i32⟩
  | .hbm, ⟨6, _⟩ => ⟨S9728x1280, .i32⟩
  | .hbm, ⟨7, _⟩ => ⟨S9728x1280, .i32⟩
  | .hbm, ⟨8, _⟩ => ⟨S9728x1280, .i32⟩
  | .hbm, ⟨9, _⟩ => ⟨S_, .i32⟩
  | .hbm, ⟨10, _⟩ => ⟨S9728x1280, .i32⟩
  | .hbm, ⟨11, _⟩ => ⟨S9728x1280, .i32⟩
  | .hbm, ⟨12, _⟩ => ⟨S9728x1280x1, .i32⟩
  | .hbm, ⟨13, _⟩ => ⟨S9728x1280x1, .i32⟩
  | .hbm, ⟨14, _⟩ => ⟨S9728x1280x2, .i32⟩
  | .hbm, ⟨15, _⟩ => ⟨S9728x160x16, .i32⟩
  | .hbm, ⟨16, _⟩ => ⟨S9728x160, .i32⟩
  | .hbm, ⟨17, _⟩ => ⟨S9728x160, .bf16⟩
  | .hbm, ⟨18, _⟩ => ⟨S9728x160x1, .bf16⟩
  | .hbm, ⟨19, _⟩ => ⟨S9728x160, .bf16⟩
  | .hbm, ⟨20, _⟩ => ⟨S9728x160x1, .bf16⟩
  | .hbm, ⟨21, _⟩ => ⟨S9728x160x16, .bf16⟩
  | .hbm, ⟨22, _⟩ => ⟨S9728x160x16, .bf16⟩
  | .hbm, ⟨23, _⟩ => ⟨S9728x160x16, .bf16⟩
  | .hbm, ⟨24, _⟩ => ⟨S9728x160x16, .bf16⟩
  | .hbm, ⟨25, _⟩ => ⟨S9728x160x16, .bf16⟩
  | .hbm, ⟨26, _⟩ => ⟨S9728x2560, .bf16⟩
  | .hbm, ⟨27, _⟩ => ⟨S_, .i32⟩
  | .hbm, ⟨28, _⟩ => ⟨S76x80x128, .i32⟩
  | .hbm, ⟨29, _⟩ => ⟨S76x80x128, .i32⟩
  | .hbm, ⟨30, _⟩ => ⟨S76x128x80, .i32⟩
  | .hbm, ⟨31, _⟩ => ⟨S9728x80, .i32⟩
  | .hbm, ⟨32, _⟩ => ⟨S9728x40, .i32⟩
  | .hbm, ⟨33, _⟩ => ⟨S9728x40, .i32⟩
  | .hbm, ⟨34, _⟩ => ⟨S9728x40, .i16⟩
  | .hbm, ⟨35, _⟩ => ⟨S9728x40, .bf16⟩
  | .hbm, ⟨36, _⟩ => ⟨S9728, .i32⟩
  | .hbm, ⟨37, _⟩ => ⟨S9728x1, .i32⟩
  | .hbm, ⟨38, _⟩ => ⟨S_, .i32⟩
  | .hbm, ⟨39, _⟩ => ⟨S9728x1, .i32⟩
  | .hbm, ⟨40, _⟩ => ⟨S9728x1, .i1⟩
  | .hbm, ⟨41, _⟩ => ⟨S_, .i32⟩
  | .hbm, ⟨42, _⟩ => ⟨S9728x1, .i32⟩
  | .hbm, ⟨43, _⟩ => ⟨S9728x1, .i32⟩
  | .hbm, ⟨44, _⟩ => ⟨S9728x1, .i32⟩
  | .hbm, ⟨45, _⟩ => ⟨S_, .i32⟩
  | .hbm, ⟨46, _⟩ => ⟨S9728x40, .i32⟩
  | .hbm, ⟨47, _⟩ => ⟨S9728x40, .i1⟩
  | .hbm, ⟨48, _⟩ => ⟨S_, .i32⟩
  | .hbm, ⟨49, _⟩ => ⟨S9728x40, .i32⟩
  | .hbm, ⟨50, _⟩ => ⟨S9728x40, .i32⟩
  | .hbm, ⟨51, _⟩ => ⟨S9728x40, .i32⟩
  | .hbm, ⟨52, _⟩ => ⟨S9728x40, .i32⟩
  | .hbm, ⟨53, _⟩ => ⟨S9728x40x1, .i32⟩
  | .hbm, ⟨54, _⟩ => ⟨S9728x40x1, .i32⟩
  | .hbm, ⟨55, _⟩ => ⟨S9728x40x2, .i32⟩
  | .hbm, ⟨56, _⟩ => ⟨S9728x2560, .bf16⟩
  | .hbm, ⟨57, _⟩ => ⟨S2560x9728, .bf16⟩
  | _, _ => ⟨S9728x1280, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_c_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Proof.KernelTile.lean ====
/-
  The kernel's body at one grid point, and the run of the whole grid, of `Kernel`.

  The weight window and the result window overhang their arrays at the last column of blocks, so what those staging
  buffers hold there is named by nothing.  `sound_kernel` says what the body leaves for any contents; `run` is the run
  of the grid for a caller's choice of what each result block is on its columns inside the array; `run_forget` is the
  run that says nothing of the result.
-/
module

public import proofs.«01_k».proof.Proof.Gen.Kernel.Frame
public import proofs.«01_k».proof.Proof.Gen.Kernel.Skeleton
public import Idealize.ShloMosaic.Lib.Pipeline.Value

@[expose] public section

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a whole-buffer access are zero. -/
theorem off_zero : (![0, 0] : Fin 2 → Nat) = fun _ => 0 := funext fun a => by fin_cases a <;> rfl

/-- The body's one store covers the result's buffer. -/
theorem cover (p0 : Vec F S1024x1024 .bf16) (y : S1024x1024.Idx) :
    ∃ pc ∈ ([⟨Rect.unit (s := S1024x1024) ![0, 0] S1024x1024.size inb_S1024x1024_S1024x1024_0_0, p0⟩] : List (View.Piece (Elt F) S1024x1024 .bf16)), y ∈ pc.1.set :=
  View.cover_of_tiled [⟨Rect.unit (s := S1024x1024) ![0, 0] S1024x1024.size inb_S1024x1024_S1024x1024_0_0, p0⟩] S1024x1024.size (by rfl) y

set_option maxHeartbeats 1000000 in
/-- The body on whole staging buffers: from an activation block `x0`, a weight block `x1` and anything in the result's
    buffer it leaves the first two as they were and the result's at the rounded product of the two blocks. -/
theorem sound_kernel (c : Dev nD) (E : Set ℕ) (i : grid0.Coords) (arg2 : Memref sig .tc .vmem S1024x2560 .bf16) (harg2 : arg2.IsWhole)
    (arg3 : Memref sig .tc .vmem S2560x1024 .bf16) (harg3 : arg3.IsWhole) (arg4 : Memref sig .tc .vmem S1024x1024 .bf16) (harg4 : arg4.IsWhole)
    (x0 : Vec F S1024x2560 .bf16) (x1 : Vec F S2560x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k0_pay1 x0 x1)) -∗ K ⟨⟩))
      ⊢ wp frame (wpE (defs₀ (F := F)) Variants.none c none) E (cc0_matmul i arg2 harg2 arg3 harg3 arg4 harg4) K := by
  simp only [cc0_matmul_eq_skeleton]; unfold cc0_matmul_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover _)).trans ((View.canon_unit_zero off_zero _ _).trans ?_)
  exact congrArg₂ k0_pay1 (View.ld_unit_zero off_zero _ _) (View.ld_unit_zero off_zero _ _)

/-- The weight block at point `t` as a whole block: its columns inside the array, filled out with zero words. -/
def wblk (c : Dev nD) (t : Fin cfg0.N) : Vec F S2560x1024 .bf16 :=
  win0_1.fill (α := Elt F .bf16) (grid0.coords t) (fun _ => Scalar.ofBits .bf16 0#16) (iblk m c 1 t)

/-- The data of the grid's run: the arrays as the call finds them; after the body the activation block, the filled
    out weight block and the product of the two; nothing owed and full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => k0_pay1 (iblk m c 0 t) (wblk m c t)
  Φ _ := Pipeline.ΦA spec0 c
  q _ := fullShare
  owed _ := 0

/-- The data's initial arrays are the buffers the region is entered with. -/
theorem A_eq (c : Dev nD) (w : Fin cfg0.W) : (dats m 0 c).A w = V m c (Pipeline.arrRef spec0 w) := by
  dsimp only [dats]

/-- What the body leaves in buffer 0 of a point. -/
theorem after0 (c : Dev nD) (t : Fin cfg0.N) : (dats m 0 c).after 0 t = iblk m c 0 t := by dsimp only [dats]
/-- What the body leaves in buffer 1 of a point. -/
theorem after1 (c : Dev nD) (t : Fin cfg0.N) : (dats m 0 c).after 1 t = wblk m c t := by dsimp only [dats]
/-- What the body leaves in buffer 2 of a point. -/
theorem after2 (c : Dev nD) (t : Fin cfg0.N) : (dats m 0 c).after 2 t = k0_pay1 (iblk m c 0 t) (wblk m c t) := by dsimp only [dats]

/-- The activation window's buffer holds its block when the body starts. -/
theorem before0 (c : Dev nD) (t : Fin cfg0.N) (d) : (dats m 0 c).before 0 t d = iblk m c 0 t :=
  before0_0_of m (dats m 0 c) (A_eq m c 0) (after0 m c) t d

/-- The weight window's cut depends on its block index alone. -/
theorem clip1 (t t' : Fin cfg0.N) (h : win0_1.index t = win0_1.index t') :
    win0_1.clip (grid0.coords t) = win0_1.clip (grid0.coords t') := by
  have h1 : cc0_transform_1 (grid0.coords t) = cc0_transform_1 (grid0.coords t') := h
  funext a
  show Pipeline.Clip.of (cc0_transform_1 (grid0.coords t) a) _ _ = Pipeline.Clip.of (cc0_transform_1 (grid0.coords t') a) _ _
  rw [h1]

/-- The weight window's buffer holds, when the body starts, its block on the columns inside the array and anything
    past them. -/
theorem before1 (c : Dev nD) (t : Fin cfg0.N) (d) :
    (dats m 0 c).before 1 t d = win0_1.fill (α := Elt F .bf16) (grid0.coords t) d (iblk m c 1 t) :=
  ((dats m 0 c).before_in_eq_fetched 1 rfl (fun _ => rfl) clip1
    (fun t => by rw [after1]; unfold wblk Dat.blockOf; rw [A_eq]; exact win0_1.cut_fill _ _ _) t d).trans
    (by unfold Dat.fetched Dat.blockOf iblk; rw [A_eq])

/-- The body table's row at point `t` is the body on that point's staging buffers. -/
theorem defs₀_row (t : Fin cfg0.N) :
    defs₀ (F := F) .tc cfg0.body (cfg0.bodyArgs t (cfg0.slots t)) = bodyAt0 t := by
  unfold defs₀; rw [Defs.onTc_tc]

/-- The body at any point, for the run that keeps the result: needed is that the product's columns inside the array
    do not depend on what fills the weight block out (`hcol`). -/
theorem body_obligation
    (hcol : ∀ (c : Dev nD) (t : Fin cfg0.N) (d : Vec F S2560x1024 .bf16),
      win0_2.cut (α := Elt F .bf16) (grid0.coords t) (k0_pay1 (iblk m c 0 t) (win0_1.fill (α := Elt F .bf16) (grid0.coords t) d (iblk m c 1 t)))
        = win0_2.cut (α := Elt F .bf16) (grid0.coords t) (k0_pay1 (iblk m c 0 t) (wblk m c t)))
    (c : Dev nD) : BodyObligationLoose (dats m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1]
  iapply (sound_kernel c Set.univ (grid0.coords t) _ _ _ _ _ _ (iblk m c 0 t) (win0_1.fill (α := Elt F .bf16) (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hw : win0_1.cut (α := Elt F .bf16) (grid0.coords t) (wblk m c t) = iblk m c 1 t := win0_1.cut_fill _ _ _
  isplitl [H0]
  · rw [after0]; iexact H0
  isplitl [H1]
  · iexists d1
    rw [after1]
    change _ ⊢ owns (c : Thread nD τ) (st0_1 t) fullShare (win0_1.fill (α := Elt F .bf16) (grid0.coords t) d1 (win0_1.cut (α := Elt F .bf16) (grid0.coords t) (wblk m c t)))
    rw [hw]; try iexact H1
  · iexists k0_pay1 (iblk m c 0 t) (win0_1.fill (α := Elt F .bf16) (grid0.coords t) d1 (iblk m c 1 t))
    rw [after2]
    change _ ⊢ owns (c : Thread nD τ) (st0_2 t) fullShare (win0_2.fill (α := Elt F .bf16) (grid0.coords t) (k0_pay1 (iblk m c 0 t) (win0_1.fill (α := Elt F .bf16) (grid0.coords t) d1 (iblk m c 1 t))) (win0_2.cut (α := Elt F .bf16) (grid0.coords t) (k0_pay1 (iblk m c 0 t) (wblk m c t))))
    rw [← hcol c t d1, win0_2.fill_cut]; try iexact H2

/-- The result window, the one the frame says nothing of. -/
def fgt : Fin cfg0.W → Bool := fun w => match w with | ⟨0, _⟩ => false | ⟨1, _⟩ => false | ⟨2, _⟩ => true

/-- The body at any point, for the run that says nothing of the result. -/
theorem body_obligation_forget (c : Dev nD) :
    BodyObligationLoose (dats m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1]
  iapply (sound_kernel c Set.univ (grid0.coords t) _ _ _ _ _ _ (iblk m c 0 t) (win0_1.fill (α := Elt F .bf16) (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hw : win0_1.cut (α := Elt F .bf16) (grid0.coords t) (wblk m c t) = iblk m c 1 t := win0_1.cut_fill _ _ _
  isplitl [H0]
  · rw [after0]; iexact H0
  isplitl [H1]
  · iexists d1
    rw [after1]
    change _ ⊢ owns (c : Thread nD τ) (st0_1 t) fullShare (win0_1.fill (α := Elt F .bf16) (grid0.coords t) d1 (win0_1.cut (α := Elt F .bf16) (grid0.coords t) (wblk m c t)))
    rw [hw]; try iexact H1
  · iexists _; iexact H2

set_option backward.isDefEq.respectTransparency.types false in
set_option maxHeartbeats 800000 in
/-- The run that says nothing of the result: it ends, the other arrays hold what they held, every counter is zero. -/
theorem run_forget : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := body_obligation_forget m) (hshare := fun c => (dats m 0 c).share_full fun _ => rfl)
    (howed := fun _ _ => rfl) (V := V m) (hmain := hmain m Variants.none) (hA := A_eq m) (hΦ := fun _ _ => rfl)

/-- THE FRAME: every fair execution ends, the two arguments end as they were launched, every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (V_main_arg0 m c),
     (Pipeline.RDat.FramePost.arr_in h.1 c 1 rfl).trans ((A_eq m c 1).trans (V_main_arg1 m c))⟩, h.2⟩) (run_forget m ρ)

set_option backward.isDefEq.respectTransparency.types false in
set_option maxHeartbeats 800000 in
/-- The run that keeps the result: every array ends at what the write-backs of the data make of it. -/
theorem run
    (hcol : ∀ (c : Dev nD) (t : Fin cfg0.N) (d : Vec F S2560x1024 .bf16),
      win0_2.cut (α := Elt F .bf16) (grid0.coords t) (k0_pay1 (iblk m c 0 t) (win0_1.fill (α := Elt F .bf16) (grid0.coords t) d (iblk m c 1 t)))
        = win0_2.cut (α := Elt F .bf16) (grid0.coords t) (k0_pay1 (iblk m c 0 t) (wblk m c t))) :
    θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m hcol) (hshare := fun c => (dats m 0 c).share_full fun _ => rfl)
    (howed := fun _ _ => rfl) (V := V m) (hmain := hmain m Variants.none) (hA := A_eq m) (hΦ := fun _ _ => rfl)

end Cert.Kernel.Tile

end
-- ==== Proof.KernelIdealTile.lean ====
/-
  The kernel's body at one grid point, and the run of the whole grid, of `KernelIdeal`.

  The weight window and the result window overhang their arrays at the last column of blocks, so what those staging
  buffers hold there is named by nothing.  `sound_kernel` says what the body leaves for any contents; `run` is the run
  of the grid for a caller's choice of what each result block is on its columns inside the array; `run_forget` is the
  run that says nothing of the result.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a whole-buffer access are zero. -/
theorem off_zero : (![0, 0] : Fin 2 → Nat) = fun _ => 0 := funext fun a => by fin_cases a <;> rfl

/-- The body's one store covers the result's buffer. -/
theorem cover (p0 : Vec F S1024x1024 .bf16) (y : S1024x1024.Idx) :
    ∃ pc ∈ ([⟨Rect.unit (s := S1024x1024) ![0, 0] S1024x1024.size inb_S1024x1024_S1024x1024_0_0, p0⟩] : List (View.Piece (Elt F) S1024x1024 .bf16)), y ∈ pc.1.set :=
  View.cover_of_tiled [⟨Rect.unit (s := S1024x1024) ![0, 0] S1024x1024.size inb_S1024x1024_S1024x1024_0_0, p0⟩] S1024x1024.size (by rfl) y

set_option maxHeartbeats 1000000 in
/-- The body on whole staging buffers: from an activation block `x0`, a weight block `x1` and anything in the result's
    buffer it leaves the first two as they were and the result's at the rounded product of the two blocks. -/
theorem sound_kernel (c : Dev nD) (E : Set ℕ) (i : grid0.Coords) (arg2 : Memref sig .tc .vmem S1024x2560 .bf16) (harg2 : arg2.IsWhole)
    (arg3 : Memref sig .tc .vmem S2560x1024 .bf16) (harg3 : arg3.IsWhole) (arg4 : Memref sig .tc .vmem S1024x1024 .bf16) (harg4 : arg4.IsWhole)
    (x0 : Vec F S1024x2560 .bf16) (x1 : Vec F S2560x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k0_pay1 x0 x1)) -∗ K ⟨⟩))
      ⊢ wp frame (wpE (defs₀ (F := F)) Variants.none c none) E (cc0_matmul i arg2 harg2 arg3 harg3 arg4 harg4) K := by
  simp only [cc0_matmul_eq_skeleton]; unfold cc0_matmul_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover _)).trans ((View.canon_unit_zero off_zero _ _).trans ?_)
  exact congrArg₂ k0_pay1 (View.ld_unit_zero off_zero _ _) (View.ld_unit_zero off_zero _ _)

/-- The weight block at point `t` as a whole block: its columns inside the array, filled out with zero words. -/
def wblk (c : Dev nD) (t : Fin cfg0.N) : Vec F S2560x1024 .bf16 :=
  win0_1.fill (α := Elt F .bf16) (grid0.coords t) (fun _ => Scalar.ofBits .bf16 0#16) (iblk m c 1 t)

/-- The data of the grid's run: the arrays as the call finds them; after the body the activation block, the filled
    out weight block and the product of the two; nothing owed and full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => k0_pay1 (iblk m c 0 t) (wblk m c t)
  Φ _ := Pipeline.ΦA spec0 c
  q _ := fullShare
  owed _ := 0

/-- The data's initial arrays are the buffers the region is entered with. -/
theorem A_eq (c : Dev nD) (w : Fin cfg0.W) : (dats m 0 c).A w = V m c (Pipeline.arrRef spec0 w) := by
  dsimp only [dats]

/-- What the body leaves in buffer 0 of a point. -/
theorem after0 (c : Dev nD) (t : Fin cfg0.N) : (dats m 0 c).after 0 t = iblk m c 0 t := by dsimp only [dats]
/-- What the body leaves in buffer 1 of a point. -/
theorem after1 (c : Dev nD) (t : Fin cfg0.N) : (dats m 0 c).after 1 t = wblk m c t := by dsimp only [dats]
/-- What the body leaves in buffer 2 of a point. -/
theorem after2 (c : Dev nD) (t : Fin cfg0.N) : (dats m 0 c).after 2 t = k0_pay1 (iblk m c 0 t) (wblk m c t) := by dsimp only [dats]

/-- The activation window's buffer holds its block when the body starts. -/
theorem before0 (c : Dev nD) (t : Fin cfg0.N) (d) : (dats m 0 c).before 0 t d = iblk m c 0 t :=
  before0_0_of m (dats m 0 c) (A_eq m c 0) (after0 m c) t d

/-- The weight window's cut depends on its block index alone. -/
theorem clip1 (t t' : Fin cfg0.N) (h : win0_1.index t = win0_1.index t') :
    win0_1.clip (grid0.coords t) = win0_1.clip (grid0.coords t') := by
  have h1 : cc0_transform_1 (grid0.coords t) = cc0_transform_1 (grid0.coords t') := h
  funext a
  show Pipeline.Clip.of (cc0_transform_1 (grid0.coords t) a) _ _ = Pipeline.Clip.of (cc0_transform_1 (grid0.coords t') a) _ _
  rw [h1]

/-- The weight window's buffer holds, when the body starts, its block on the columns inside the array and anything
    past them. -/
theorem before1 (c : Dev nD) (t : Fin cfg0.N) (d) :
    (dats m 0 c).before 1 t d = win0_1.fill (α := Elt F .bf16) (grid0.coords t) d (iblk m c 1 t) :=
  ((dats m 0 c).before_in_eq_fetched 1 rfl (fun _ => rfl) clip1
    (fun t => by rw [after1]; unfold wblk Dat.blockOf; rw [A_eq]; exact win0_1.cut_fill _ _ _) t d).trans
    (by unfold Dat.fetched Dat.blockOf iblk; rw [A_eq])

/-- The body table's row at point `t` is the body on that point's staging buffers. -/
theorem defs₀_row (t : Fin cfg0.N) :
    defs₀ (F := F) .tc cfg0.body (cfg0.bodyArgs t (cfg0.slots t)) = bodyAt0 t := by
  unfold defs₀; rw [Defs.onTc_tc]

/-- The body at any point, for the run that keeps the result: needed is that the product's columns inside the array
    do not depend on what fills the weight block out (`hcol`). -/
theorem body_obligation
    (hcol : ∀ (c : Dev nD) (t : Fin cfg0.N) (d : Vec F S2560x1024 .bf16),
      win0_2.cut (α := Elt F .bf16) (grid0.coords t) (k0_pay1 (iblk m c 0 t) (win0_1.fill (α := Elt F .bf16) (grid0.coords t) d (iblk m c 1 t)))
        = win0_2.cut (α := Elt F .bf16) (grid0.coords t) (k0_pay1 (iblk m c 0 t) (wblk m c t)))
    (c : Dev nD) : BodyObligationLoose (dats m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1]
  iapply (sound_kernel c Set.univ (grid0.coords t) _ _ _ _ _ _ (iblk m c 0 t) (win0_1.fill (α := Elt F .bf16) (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hw : win0_1.cut (α := Elt F .bf16) (grid0.coords t) (wblk m c t) = iblk m c 1 t := win0_1.cut_fill _ _ _
  isplitl [H0]
  · rw [after0]; iexact H0
  isplitl [H1]
  · iexists d1
    rw [after1]
    change _ ⊢ owns (c : Thread nD τ) (st0_1 t) fullShare (win0_1.fill (α := Elt F .bf16) (grid0.coords t) d1 (win0_1.cut (α := Elt F .bf16) (grid0.coords t) (wblk m c t)))
    rw [hw]; try iexact H1
  · iexists k0_pay1 (iblk m c 0 t) (win0_1.fill (α := Elt F .bf16) (grid0.coords t) d1 (iblk m c 1 t))
    rw [after2]
    change _ ⊢ owns (c : Thread nD τ) (st0_2 t) fullShare (win0_2.fill (α := Elt F .bf16) (grid0.coords t) (k0_pay1 (iblk m c 0 t) (win0_1.fill (α := Elt F .bf16) (grid0.coords t) d1 (iblk m c 1 t))) (win0_2.cut (α := Elt F .bf16) (grid0.coords t) (k0_pay1 (iblk m c 0 t) (wblk m c t))))
    rw [← hcol c t d1, win0_2.fill_cut]; try iexact H2

/-- The result window, the one the frame says nothing of. -/
def fgt : Fin cfg0.W → Bool := fun w => match w with | ⟨0, _⟩ => false | ⟨1, _⟩ => false | ⟨2, _⟩ => true

/-- The body at any point, for the run that says nothing of the result. -/
theorem body_obligation_forget (c : Dev nD) :
    BodyObligationLoose (dats m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1]
  iapply (sound_kernel c Set.univ (grid0.coords t) _ _ _ _ _ _ (iblk m c 0 t) (win0_1.fill (α := Elt F .bf16) (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hw : win0_1.cut (α := Elt F .bf16) (grid0.coords t) (wblk m c t) = iblk m c 1 t := win0_1.cut_fill _ _ _
  isplitl [H0]
  · rw [after0]; iexact H0
  isplitl [H1]
  · iexists d1
    rw [after1]
    change _ ⊢ owns (c : Thread nD τ) (st0_1 t) fullShare (win0_1.fill (α := Elt F .bf16) (grid0.coords t) d1 (win0_1.cut (α := Elt F .bf16) (grid0.coords t) (wblk m c t)))
    rw [hw]; try iexact H1
  · iexists _; iexact H2

set_option backward.isDefEq.respectTransparency.types false in
set_option maxHeartbeats 800000 in
/-- The run that says nothing of the result: it ends, the other arrays hold what they held, every counter is zero. -/
theorem run_forget : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := body_obligation_forget m) (hshare := fun c => (dats m 0 c).share_full fun _ => rfl)
    (howed := fun _ _ => rfl) (V := V m) (hmain := hmain m Variants.none) (hA := A_eq m) (hΦ := fun _ _ => rfl)

/-- THE FRAME: every fair execution ends, the two arguments end as they were launched, every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (V_main_arg0 m c),
     (Pipeline.RDat.FramePost.arr_in h.1 c 1 rfl).trans ((A_eq m c 1).trans (V_main_arg1 m c))⟩, h.2⟩) (run_forget m ρ)

set_option backward.isDefEq.respectTransparency.types false in
set_option maxHeartbeats 800000 in
/-- The run that keeps the result: every array ends at what the write-backs of the data make of it. -/
theorem run
    (hcol : ∀ (c : Dev nD) (t : Fin cfg0.N) (d : Vec F S2560x1024 .bf16),
      win0_2.cut (α := Elt F .bf16) (grid0.coords t) (k0_pay1 (iblk m c 0 t) (win0_1.fill (α := Elt F .bf16) (grid0.coords t) d (iblk m c 1 t)))
        = win0_2.cut (α := Elt F .bf16) (grid0.coords t) (k0_pay1 (iblk m c 0 t) (wblk m c t))) :
    θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m hcol) (hshare := fun c => (dats m 0 c).share_full fun _ => rfl)
    (howed := fun _ _ => rfl) (V := V m) (hmain := hmain m Variants.none) (hA := A_eq m) (hΦ := fun _ _ => rfl)

end Cert.KernelIdeal.Tile

end
-- ==== Proof.Value.lean ====
/-
  What the kernel's result is at the ideal values, and that the reference's is the same.

  At the ideal values a matrix product read at (r, c) is the sum over k of the left factor at (r, k) times the right
  at (k, c).  So the columns of a result block that lie inside the array do not depend on what the staging buffer of
  the weight block holds past the array's end (`hcol`), and the blocks of the grid piece together into `G`, the sum
  over k of x[row / 2048, row % 2048, k] · w[k, column].  The reference's reshaped contraction is `G` too.
-/
module

public import proofs.«01_k».proof.Proof.KernelIdealTile
public import proofs.«01_k».proof.Proof.Gen.ReferenceIdeal.Run
public import proofs.«01_k».proof.Defs
public import Idealize.ShloMosaic.Lib.MatmulPlain
public import Idealize.ShloMosaic.Lib.Pipeline.Value

@[expose] public section

set_option maxRecDepth 16384

noncomputable section

namespace Cert.KernelIdeal.Value

open Cert.KernelIdeal Cert.KernelIdeal.Gen Cert.KernelIdeal.Tile
open Idealize.ShloMosaic Idealize.ShloMosaic.TcCoe Idealize.SL.Sem Idealize.ShloMosaic.StableHlo Idealize.ShloMosaic.ValueIdx
open Idealize.ShloMosaic.Pipeline (Dat Window)

variable (m : (ℓ : Loc nD τ sig) → Buf (Elt Ideal) ℓ) (ρ : Dev nD → PrngReg)

/-! ## The product of a block at an index -/

/-- The body's payload at (r, c): the sum over k of the two blocks' products (rounding is the identity). -/
theorem pay_apply (X : Vec Ideal S1024x2560 .bf16) (W : Vec Ideal S2560x1024 .bf16) (r : Fin 1024) (c : Fin 1024) :
    (k0_pay1 X W : S1024x1024.Idx → EReal) (ix2 r c) = ∑ k : Fin 2560, (X (ix2 r k) : EReal) * W (ix2 k c) := by
  unfold k0_pay1
  rw [shapeCast_self]
  refine (Ideal.matmul_plain_apply (φ₁ := .bf16) (φ₂ := .bf16) none X W (constant S1024x1024 .f32 0x00000000#32) r c).trans ?_
  show Ideal.ofBits .f32 0x00000000#32 + _ = _
  rw [Ideal.ofBits_zero_f32, zero_add]

/-- Row `R` of the flattened activations is row (R / 2048, R % 2048). -/
def G (x : S6x2048x2560.Idx → EReal) (w : S2560x9728.Idx → EReal) : S12288x9728.Idx → EReal := fun j =>
  ∑ k : Fin 2560, x (ix3 (⟨(j 0).val / 2048, by have := (j 0).isLt; simp at this; omega⟩ : Fin 6)
    (⟨(j 0).val % 2048, Nat.mod_lt _ (by decide)⟩ : Fin 2048) k) * w (ix2 k (j 1))

/-! ## The blocks' places -/

/-- Which block of array 0 each point has. -/
theorem idx0 : ∀ t : Fin grid0.N, win0_0.index t 0 = t.val % 12 ∧ win0_0.index t 1 = 0 := by decide +kernel
/-- Which block of array 1 each point has. -/
theorem idx1 : ∀ t : Fin grid0.N, win0_1.index t 0 = 0 ∧ win0_1.index t 1 = t.val / 12 := by decide +kernel
/-- Which block of array 2 each point has. -/
theorem idx2 : ∀ t : Fin grid0.N, win0_2.index t 0 = t.val % 12 ∧ win0_2.index t 1 = t.val / 12 := by decide +kernel
/-- How much of the weight block lies inside the array at each point. -/
theorem xs1 : ∀ t : Fin grid0.N, win0_1.xsize (grid0.coords t) 0 = 2560
    ∧ win0_1.xsize (grid0.coords t) 1 = min 1024 (9728 - t.val / 12 * 1024) := by decide +kernel
/-- How much of the result block lies inside the array at each point. -/
theorem xs2 : ∀ t : Fin grid0.N, win0_2.xsize (grid0.coords t) 0 = 1024
    ∧ win0_2.xsize (grid0.coords t) 1 = min 1024 (9728 - t.val / 12 * 1024) := by decide +kernel

/-- The filled out weight block at a column inside the array. -/
theorem fill_apply (c : Dev nD) (t : Fin grid0.N) (d : Vec Ideal S2560x1024 .bf16) (k : Fin 2560) (n : Fin 1024)
    (hn : n.val < min 1024 (9728 - t.val / 12 * 1024)) :
    win0_1.fill (α := Elt Ideal .bf16) (grid0.coords t) d (iblk m c 1 t) (ix2 k n)
      = V m c main_arg1 (ix2 k (⟨t.val / 12 * 1024 + n.val, by omega⟩ : Fin 9728)) := by
  have hm : win0_1.moved (grid0.coords t) (ix2 k n) = true := by
    rw [win0_1.moved_iff]
    intro a
    match a with
    | ⟨0, _⟩ => exact lt_of_lt_of_eq k.isLt (xs1 t).1.symm
    | ⟨1, _⟩ => exact lt_of_lt_of_eq hn (xs1 t).2.symm
  unfold Window.fill
  rw [dif_pos hm]
  unfold iblk
  rw [View.read_apply]
  refine congrArg (V m c main_arg1) ?_
  funext a; apply Fin.ext
  match a with
  | ⟨0, _⟩ =>
    show win0_1.index t 0 * 2560 + 1 * k.val = k.val
    rw [(idx1 t).1]; omega
  | ⟨1, _⟩ =>
    show win0_1.index t 1 * 1024 + 1 * n.val = t.val / 12 * 1024 + n.val
    rw [(idx1 t).2]; omega

/-- The activation block: row r of block `t` is row (t % 12) · 1024 + r of the flattened activations. -/
theorem iblk0_apply (c : Dev nD) (t : Fin grid0.N) (r : Fin 1024) (k : Fin 2560) :
    (iblk m c 0 t : S1024x2560.Idx → EReal) (ix2 r k)
      = V m c main_v0 (ix2 (⟨t.val % 12 * 1024 + r.val, by omega⟩ : Fin 12288) k) := by
  unfold iblk
  rw [View.read_apply]
  refine congrArg (V m c main_v0) ?_
  funext a; apply Fin.ext
  match a with
  | ⟨0, _⟩ =>
    show win0_0.index t 0 * 1024 + 1 * r.val = t.val % 12 * 1024 + r.val
    rw [(idx0 t).1]; omega
  | ⟨1, _⟩ =>
    show win0_0.index t 1 * 2560 + 1 * k.val = k.val
    rw [(idx0 t).2]; omega

/-- The flattened activations are the reshaped argument. -/
theorem V_v0 (c : Dev nD) (R : Fin 12288) (k : Fin 2560) :
    (V m c main_v0 : S12288x2560.Idx → EReal) (ix2 R k)
      = m ((c.tc : Thread nD τ).loc main_arg0) (ix3 (⟨R.val / 2048, by omega⟩ : Fin 6) (⟨R.val % 2048, Nat.mod_lt _ (by decide)⟩ : Fin 2048) k) := by
  have e : V m c main_v0 = shapeCast S12288x2560 (m ((c.tc : Thread nD τ).loc main_arg0)) shapeCasts_S6x2048x2560_S12288x2560 := by
    unfold V hostOps0; after_results <;> rfl
  rw [e]
  refine shapeCast_apply (s := S6x2048x2560) _ _ _ _ ?_
  rw [Shape.rowMajor_val_three, Shape.rowMajor_val_two]
  show (R.val / 2048 * 2048 + R.val % 2048) * 2560 + k.val = R.val * 2560 + k.val
  omega

/-- A result block at a column inside the array, whatever fills the weight block out: the sums `G` names. -/
theorem block_apply (c : Dev nD) (t : Fin grid0.N) (d : Vec Ideal S2560x1024 .bf16) (r : Fin 1024) (n : Fin 1024)
    (hn : n.val < min 1024 (9728 - t.val / 12 * 1024)) :
    (k0_pay1 (iblk m c 0 t) (win0_1.fill (α := Elt Ideal .bf16) (grid0.coords t) d (iblk m c 1 t)) : S1024x1024.Idx → EReal) (ix2 r n)
      = G (m ((c.tc : Thread nD τ).loc main_arg0)) (m ((c.tc : Thread nD τ).loc main_arg1))
          (ix2 (⟨t.val % 12 * 1024 + r.val, by omega⟩ : Fin 12288) (⟨t.val / 12 * 1024 + n.val, by omega⟩ : Fin 9728)) := by
  rw [pay_apply]
  unfold G
  refine Finset.sum_congr rfl fun k _ => ?_
  rw [iblk0_apply, V_v0, fill_apply m c t d k n hn, V_main_arg1]

/-- An index of what the write-back moves, inside the block. -/
theorem xinj_eq (t : Fin grid0.N) (j : (win0_2.xblock (grid0.coords t)).Idx) :
    (win0_2.xinj (grid0.coords t) j : S1024x1024.Idx)
      = ix2 (⟨(j 0).val, lt_of_lt_of_eq (j 0).isLt (xs2 t).1⟩ : Fin 1024)
          (⟨(j 1).val, lt_of_lt_of_le (lt_of_lt_of_eq (j 1).isLt (xs2 t).2) (min_le_left _ _)⟩ : Fin 1024) := by
  funext a; apply Fin.ext
  match a with
  | ⟨0, _⟩ => rfl
  | ⟨1, _⟩ => rfl

/-- What a write-back moves of a result block does not depend on what fills the weight block out. -/
theorem hcol (c : Dev nD) (t : Fin cfg0.N) (d : Vec Ideal S2560x1024 .bf16) :
    win0_2.cut (α := Elt Ideal .bf16) (grid0.coords t) (k0_pay1 (iblk m c 0 t) (win0_1.fill (α := Elt Ideal .bf16) (grid0.coords t) d (iblk m c 1 t)))
      = win0_2.cut (α := Elt Ideal .bf16) (grid0.coords t) (k0_pay1 (iblk m c 0 t) (wblk m c t)) := by
  funext j
  have hn := lt_of_lt_of_eq (j 1).isLt (xs2 t).2
  unfold wblk
  show k0_pay1 _ _ (win0_2.xinj (grid0.coords t) j) = k0_pay1 _ _ (win0_2.xinj (grid0.coords t) j)
  rw [xinj_eq]
  exact (block_apply m c t d _ _ hn).trans (block_apply m c t _ _ _ hn).symm

/-- What point `t` writes back is `G` on its block. -/
theorem flushed_eq (c : Dev nD) (t : Fin cfg0.N) :
    (dats m 0 c).flushed 2 t = ((cfg0.win 2).blk t).view.read (Elt Ideal)
      (G (m ((c.tc : Thread nD τ).loc main_arg0)) (m ((c.tc : Thread nD τ).loc main_arg1))) := by
  show (win0_2.cut (α := Elt Ideal .bf16) (grid0.coords t) ((dats m 0 c).after 2 t)) = _
  rw [after2]
  funext j
  have hn := lt_of_lt_of_eq (j 1).isLt (xs2 t).2
  unfold wblk
  show k0_pay1 _ _ (win0_2.xinj (grid0.coords t) j) = _
  rw [xinj_eq, View.read_apply]
  refine (block_apply m c t _ _ _ hn).trans (congrArg (G _ _) ?_)
  funext a; apply Fin.ext
  match a with
  | ⟨0, _⟩ =>
    show t.val % 12 * 1024 + (j 0).val = win0_2.index t 0 * 1024 + 1 * (j 0).val
    rw [(idx2 t).1]; omega
  | ⟨1, _⟩ =>
    show t.val / 12 * 1024 + (j 1).val = win0_2.index t 1 * 1024 + 1 * (j 1).val
    rw [(idx2 t).2]; omega

/-- Every index of the result lies in some point's block. -/
theorem cover_out (i : S12288x9728.Idx) : ∃ t : Fin cfg0.N, (cfg0.win 2).flush t = true ∧ i ∈ ((cfg0.win 2).blk t).view.set := by
  have h0 : (i 0).val < 12288 := (i 0).isLt
  have h1 : (i 1).val < 9728 := (i 1).isLt
  let t : Fin grid0.N := ⟨(i 1).val / 1024 * 12 + (i 0).val / 1024, by rw [N_0]; omega⟩
  refine ⟨t, flush0_2 t, ?_⟩
  show i ∈ ((View.whole main_v1).slice (win0_2.rect t)).set
  rw [View.set_slice_whole, Rect.mem_set_unit]
  have ht : t.val = (i 1).val / 1024 * 12 + (i 0).val / 1024 := rfl
  intro a
  match a with
  | ⟨0, _⟩ =>
    show win0_2.index t 0 * 1024 ≤ (i 0).val ∧ (i 0).val < win0_2.index t 0 * 1024 + win0_2.xsize (grid0.coords t) 0
    rw [(idx2 t).1, (xs2 t).1, ht]; omega
  | ⟨1, _⟩ =>
    show win0_2.index t 1 * 1024 ≤ (i 1).val ∧ (i 1).val < win0_2.index t 1 * 1024 + win0_2.xsize (grid0.coords t) 1
    rw [(idx2 t).2, (xs2 t).2, ht]; omega

/-- The result after the run: `G` of the two arguments. -/
theorem run_G : θ_run defs (onTc (τ := τ) (main (F := Ideal))) ⟨m, fun _ => 0, ρ⟩ (fun r => ∀ c : Dev nD,
      r.2.mem ((c.tc : Thread nD τ).loc main_v1) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).1 2).trans ((dats m 0 c).arrAt_eq_of_cover 2 _ (fun t _ => flushed_eq m c t) cover_out),
     ((h.1 c).2 main_arg0 (Pipeline.mem_restRefs_of main_arg0 (by decide) (by decide))).trans (V_main_arg0 m c),
     ((h.1 c).1 1).trans (((dats m 0 c).arrAt_in 1 rfl _).trans ((A_eq m c 1).trans (V_main_arg1 m c)))⟩)
    (run m ρ (hcol m))

/-! ## The reference -/

/-- The reference's contraction at (b, s, n). -/
theorem dot_apply (x : FVec Ideal Cert.ReferenceIdeal.S6x2048x2560 .bf16) (w : FVec Ideal Cert.ReferenceIdeal.S2560x9728 .bf16)
    (b : Fin 6) (s : Fin 2048) (n : Fin 9728) :
    (Host.dotGeneral Cert.ReferenceIdeal.dot_S6x2048x2560_S2560x9728_S6x2048x9728_2_0_01_1_n_n none x w) (ix3 b s n)
      = ∑ k : Fin 2560, (x (ix3 b s k) : EReal) * w (ix2 k n) := by
  let D := Cert.ReferenceIdeal.dot_S6x2048x2560_S2560x9728_S6x2048x9728_2_0_01_1_n_n
  show FloatOps.dotGeneral D none _ x w (ix3 b s n) = _
  rw [Ideal.dotGeneral_apply, ← Equiv.sum_comp (contrEquiv1 D 2560 rfl rfl).symm]
  refine Finset.sum_congr rfl fun k _ => ?_
  have hk := contrEquiv1_symm_val D 2560 rfl rfl k
  have el : D.lhsIdx (ix3 b s n) ((contrEquiv1 D 2560 rfl rfl).symm k) = ix3 b s k := by
    funext a; apply Fin.ext
    match a with
    | ⟨0, _⟩ => rfl
    | ⟨1, _⟩ => rfl
    | ⟨2, _⟩ => exact hk
  have er : D.rhsIdx (ix3 b s n) ((contrEquiv1 D 2560 rfl rfl).symm k) = ix2 k n := by
    funext a; apply Fin.ext
    match a with
    | ⟨0, _⟩ => exact hk
    | ⟨1, _⟩ => rfl
  rw [el, er]

/-- The reference's result is `G` of its arguments. -/
theorem ref_eq (x : FVec Ideal Cert.ReferenceIdeal.S6x2048x2560 .bf16) (w : FVec Ideal Cert.ReferenceIdeal.S2560x9728 .bf16) :
    shapeCast Cert.ReferenceIdeal.S12288x9728 (truncf .bf16 (Host.dotGeneral
      Cert.ReferenceIdeal.dot_S6x2048x2560_S2560x9728_S6x2048x9728_2_0_01_1_n_n none x w) Cert.ReferenceIdeal.Facts₀.bitsLt_bf16_f32)
      Cert.ReferenceIdeal.Facts₀.shapeCasts_S6x2048x9728_S12288x9728 = G x w := by
  funext j
  obtain ⟨R, n, rfl⟩ : ∃ (R : Fin 12288) (n : Fin 9728), j = ix2 R n := ⟨j 0, j 1, eq_ix2 j⟩
  refine (shapeCast_apply _ _ (ix2 R n) (ix3 (⟨R.val / 2048, by omega⟩ : Fin 6) (⟨R.val % 2048, Nat.mod_lt _ (by decide)⟩ : Fin 2048) n) ?_).trans
    (dot_apply x w _ _ _)
  rw [Shape.rowMajor_val_three, Shape.rowMajor_val_two]
  show (R.val / 2048 * 2048 + R.val % 2048) * 9728 + n.val = R.val * 9728 + n.val
  omega

end Cert.KernelIdeal.Value

end
-- ==== Proof.PrepTrip.lean ====
/-
  One trip of the loop of `Prep`'s kernel: what it stores, as a list of pieces in the program's own vector operations.

  A trip makes 256 rows of the block.  It stores the sixteen dequantised groups first (`DL`), then goes over the first
  half of them with the forty outlier slots (`HL0`) and over the second half (`HL1`).
-/
module

public import proofs.«01_k».proof.Proof.Gen.Prep.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 65536
set_option maxHeartbeats 4000000

noncomputable section

namespace Cert.Prep.Trip

open Cert.Prep Cert.Prep.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Every group's eight rows of code words lie in the transposed block of codes. -/
theorem slices_g (g : ℕ) (hg : g < 16) : S128x128.Slices ![8 * g, 0] S8x128 := by
  have : ∀ g : Fin 16, S128x128.Slices ![8 * g.val, 0] S8x128 := by decide
  exact this ⟨g, hg⟩

/-- Every slot's row lies in the block of slots. -/
theorem inb_e (j : ℕ) (hj : j < 80) : ∀ a, (![0, j, 0] : Fin 3 → Nat) a + S1x1x128.size a ≤ S1x80x128.size a := by
  intro a; fin_cases a
  · exact Nat.le_refl 1
  · show j + 1 ≤ 80; omega
  · exact Nat.le_refl 128

/-- Eight rows of 32-bit words taken as sixteen rows of bf16, the same words in each row. -/
def halves (w : IVec S1x128 32) : FVec F S16x128 .bf16 :=
  bitcastToFloat .bf16 (bitcast S16x128 16 (broadcastTo S8x128 (shapeCast S1x128 (shapeCast S1x128 w shapeCasts_S1x128_S1x128) shapeCasts_S1x128_S1x128) broadcasts_S1x128_S8x128) bitcasts_S8x128_w32_S16x128_w16)

/-- Two code nibbles of a word, each placed under the bf16 exponent of 128. -/
def codeWords (v5 : Vec F S128x128 .i8) (g : ℕ) (hg : g < 16) : IVec S8x128 32 :=
  ori (ori (andi (extractStridedSlice S8x128 ![8 * g, 0] (k0_pay1 (F := F) v5) (slices_g g hg)) (broadcast S8x128 15#32))
    (shli (andi (extractStridedSlice S8x128 ![8 * g, 0] (k0_pay1 (F := F) v5) (slices_g g hg)) (broadcast S8x128 240#32)) (broadcast S8x128 12#32))) (broadcast S8x128 1124090624#32)

/-- Group `g` of trip `k`, dequantised. -/
def dq (x1 : Vec F S128x1280 .i8) (x2 x3 : Vec F S160x128 .i32) (k : Fin k0_t1_loop.trips) (g : ℕ) (hg : g < 16) : FVec F S16x128 .bf16 :=
  mulf (subf (bitcastToFloat .bf16 (bitcast S16x128 16 (codeWords (F := F) (View.ld (Val := Elt F) x1 (Rect.unit (s := S128x1280) (k0_off1 k) S128x128.size (k0_off1_inb k))) g hg) bitcasts_S8x128_w32_S16x128_w16))
      (halves (View.ld (Val := Elt F) x3 (Rect.unit (s := S160x128) (k0_off2 k (BitVec.ofNat 32 g)) S1x128.size (k0_off2_inb k ⟨g, hg⟩)))))
    (halves (View.ld (Val := Elt F) x2 (Rect.unit (s := S160x128) (k0_off2 k (BitVec.ofNat 32 g)) S1x128.size (k0_off2_inb k ⟨g, hg⟩))))

/-- The row numbers of the sixteen rows that start at `256 * k + h + g`. -/
def rowsOf (v0 : IVec S16x128 16) (k : Fin k0_t1_loop.trips) (h g : BitVec 32) : IVec S16x128 16 :=
  addi v0 (trunci 16 (broadcast S16x128 (Scalar.addi (Scalar.addi (Scalar.muli (Scf.iv 0#32 1#32 k) 256#32) h) g)) natLt_16_32)

/-- Row `j` of the slots' block. -/
def slot (x4 : Vec F S1x80x128 .i32) (j : ℕ) (hj : j < 80) : Vec F S1x1x128 .i32 :=
  View.ld (Val := Elt F) x4 (Rect.unit (s := S1x80x128) ![0, j, 0] S1x1x128.size (inb_e j hj))

/-- A slot's row as sixteen rows of 16-bit words. -/
def slotWords (e : Vec F S1x1x128 .i32) : IVec S16x128 16 :=
  bitcast S16x128 16 (broadcastTo S8x128 (shapeCast S1x128 (shapeCast S1x128 e shapeCasts_S1x1x128_S1x128) shapeCasts_S1x128_S1x128) broadcasts_S1x128_S8x128) bitcasts_S8x128_w32_S16x128_w16

/-- Sixteen rows gone over with the first `n` slots. -/
def pt (rows : IVec S16x128 16) (x4 : Vec F S1x80x128 .i32) : (n : ℕ) → n ≤ 40 → FVec F S16x128 .bf16 → FVec F S16x128 .bf16
  | 0, _, w => w
  | n + 1, h, w => select (cmpi .eq rows (slotWords (F := F) (slot x4 n (by omega)))) (bitcastToFloat .bf16 (slotWords (F := F) (slot x4 (40 + n) (by omega)))) (pt rows x4 n (by omega) w)

/-- The dequantised groups a trip stores, last first. -/
def DL (x1 : Vec F S128x1280 .i8) (x2 x3 : Vec F S160x128 .i32) (k : Fin k0_t1_loop.trips) : List (View.Piece (Elt F) S2560x128 .bf16) :=
  [⟨Rect.unit (s := S2560x128) (k0_off3 k 15#32) S16x128.size (k0_off3_inb k 15), dq x1 x2 x3 k 15 (by decide)⟩,
   ⟨Rect.unit (s := S2560x128) (k0_off3 k 14#32) S16x128.size (k0_off3_inb k 14), dq x1 x2 x3 k 14 (by decide)⟩,
   ⟨Rect.unit (s := S2560x128) (k0_off3 k 13#32) S16x128.size (k0_off3_inb k 13), dq x1 x2 x3 k 13 (by decide)⟩,
   ⟨Rect.unit (s := S2560x128) (k0_off3 k 12#32) S16x128.size (k0_off3_inb k 12), dq x1 x2 x3 k 12 (by decide)⟩,
   ⟨Rect.unit (s := S2560x128) (k0_off3 k 11#32) S16x128.size (k0_off3_inb k 11), dq x1 x2 x3 k 11 (by decide)⟩,
   ⟨Rect.unit (s := S2560x128) (k0_off3 k 10#32) S16x128.size (k0_off3_inb k 10), dq x1 x2 x3 k 10 (by decide)⟩,
   ⟨Rect.unit (s := S2560x128) (k0_off3 k 9#32) S16x128.size (k0_off3_inb k 9), dq x1 x2 x3 k 9 (by decide)⟩,
   ⟨Rect.unit (s := S2560x128) (k0_off3 k 8#32) S16x128.size (k0_off3_inb k 8), dq x1 x2 x3 k 8 (by decide)⟩,
   ⟨Rect.unit (s := S2560x128) (k0_off3 k 7#32) S16x128.size (k0_off3_inb k 7), dq x1 x2 x3 k 7 (by decide)⟩,
   ⟨Rect.unit (s := S2560x128) (k0_off3 k 6#32) S16x128.size (k0_off3_inb k 6), dq x1 x2 x3 k 6 (by decide)⟩,
   ⟨Rect.unit (s := S2560x128) (k0_off3 k 5#32) S16x128.size (k0_off3_inb k 5), dq x1 x2 x3 k 5 (by decide)⟩,
   ⟨Rect.unit (s := S2560x128) (k0_off3 k 4#32) S16x128.size (k0_off3_inb k 4), dq x1 x2 x3 k 4 (by decide)⟩,
   ⟨Rect.unit (s := S2560x128) (k0_off3 k 3#32) S16x128.size (k0_off3_inb k 3), dq x1 x2 x3 k 3 (by decide)⟩,
   ⟨Rect.unit (s := S2560x128) (k0_off3 k 2#32) S16x128.size (k0_off3_inb k 2), dq x1 x2 x3 k 2 (by decide)⟩,
   ⟨Rect.unit (s := S2560x128) (k0_off3 k 1#32) S16x128.size (k0_off3_inb k 1), dq x1 x2 x3 k 1 (by decide)⟩,
   ⟨Rect.unit (s := S2560x128) (k0_off3 k 0#32) S16x128.size (k0_off3_inb k 0), dq x1 x2 x3 k 0 (by decide)⟩]

/-- With the first half gone over by the slots. -/
def HL0 (v5 : View sig .tc .vmem S2560x128 .bf16) (v0 : IVec S16x128 16) (x1 : Vec F S128x1280 .i8) (x2 x3 : Vec F S160x128 .i32) (x4 : Vec F S1x80x128 .i32) (k : Fin k0_t1_loop.trips) : List (View.Piece (Elt F) S2560x128 .bf16) :=
  [⟨Rect.unit (s := S2560x128) (k0_off4 k 0#32 112#32) S16x128.size (k0_off4_inb k 0 7), pt (rowsOf v0 k 0#32 112#32) x4 40 (by decide) (shapeCast S16x128 (v5.readCov (DL x1 x2 x3 k) (Rect.unit (s := S2560x128) (k0_off4 k 0#32 112#32) S16x128.size (k0_off4_inb k 0 7)).toLoadRect) shapeCasts_S16x128_S16x128)⟩,
   ⟨Rect.unit (s := S2560x128) (k0_off4 k 0#32 96#32) S16x128.size (k0_off4_inb k 0 6), pt (rowsOf v0 k 0#32 96#32) x4 40 (by decide) (shapeCast S16x128 (v5.readCov (DL x1 x2 x3 k) (Rect.unit (s := S2560x128) (k0_off4 k 0#32 96#32) S16x128.size (k0_off4_inb k 0 6)).toLoadRect) shapeCasts_S16x128_S16x128)⟩,
   ⟨Rect.unit (s := S2560x128) (k0_off4 k 0#32 80#32) S16x128.size (k0_off4_inb k 0 5), pt (rowsOf v0 k 0#32 80#32) x4 40 (by decide) (shapeCast S16x128 (v5.readCov (DL x1 x2 x3 k) (Rect.unit (s := S2560x128) (k0_off4 k 0#32 80#32) S16x128.size (k0_off4_inb k 0 5)).toLoadRect) shapeCasts_S16x128_S16x128)⟩,
   ⟨Rect.unit (s := S2560x128) (k0_off4 k 0#32 64#32) S16x128.size (k0_off4_inb k 0 4), pt (rowsOf v0 k 0#32 64#32) x4 40 (by decide) (shapeCast S16x128 (v5.readCov (DL x1 x2 x3 k) (Rect.unit (s := S2560x128) (k0_off4 k 0#32 64#32) S16x128.size (k0_off4_inb k 0 4)).toLoadRect) shapeCasts_S16x128_S16x128)⟩,
   ⟨Rect.unit (s := S2560x128) (k0_off4 k 0#32 48#32) S16x128.size (k0_off4_inb k 0 3), pt (rowsOf v0 k 0#32 48#32) x4 40 (by decide) (shapeCast S16x128 (v5.readCov (DL x1 x2 x3 k) (Rect.unit (s := S2560x128) (k0_off4 k 0#32 48#32) S16x128.size (k0_off4_inb k 0 3)).toLoadRect) shapeCasts_S16x128_S16x128)⟩,
   ⟨Rect.unit (s := S2560x128) (k0_off4 k 0#32 32#32) S16x128.size (k0_off4_inb k 0 2), pt (rowsOf v0 k 0#32 32#32) x4 40 (by decide) (shapeCast S16x128 (v5.readCov (DL x1 x2 x3 k) (Rect.unit (s := S2560x128) (k0_off4 k 0#32 32#32) S16x128.size (k0_off4_inb k 0 2)).toLoadRect) shapeCasts_S16x128_S16x128)⟩,
   ⟨Rect.unit (s := S2560x128) (k0_off4 k 0#32 16#32) S16x128.size (k0_off4_inb k 0 1), pt (rowsOf v0 k 0#32 16#32) x4 40 (by decide) (shapeCast S16x128 (v5.readCov (DL x1 x2 x3 k) (Rect.unit (s := S2560x128) (k0_off4 k 0#32 16#32) S16x128.size (k0_off4_inb k 0 1)).toLoadRect) shapeCasts_S16x128_S16x128)⟩,
   ⟨Rect.unit (s := S2560x128) (k0_off4 k 0#32 0#32) S16x128.size (k0_off4_inb k 0 0), pt (rowsOf v0 k 0#32 0#32) x4 40 (by decide) (shapeCast S16x128 (v5.readCov (DL x1 x2 x3 k) (Rect.unit (s := S2560x128) (k0_off4 k 0#32 0#32) S16x128.size (k0_off4_inb k 0 0)).toLoadRect) shapeCasts_S16x128_S16x128)⟩] ++ DL x1 x2 x3 k

/-- With the second half gone over by the slots: what a trip stores. -/
def HL1 (v5 : View sig .tc .vmem S2560x128 .bf16) (v0 : IVec S16x128 16) (x1 : Vec F S128x1280 .i8) (x2 x3 : Vec F S160x128 .i32) (x4 : Vec F S1x80x128 .i32) (k : Fin k0_t1_loop.trips) : List (View.Piece (Elt F) S2560x128 .bf16) :=
  [⟨Rect.unit (s := S2560x128) (k0_off4 k 128#32 112#32) S16x128.size (k0_off4_inb k 1 7), pt (rowsOf v0 k 128#32 112#32) x4 40 (by decide) (shapeCast S16x128 (v5.readCov (HL0 v5 v0 x1 x2 x3 x4 k) (Rect.unit (s := S2560x128) (k0_off4 k 128#32 112#32) S16x128.size (k0_off4_inb k 1 7)).toLoadRect) shapeCasts_S16x128_S16x128)⟩,
   ⟨Rect.unit (s := S2560x128) (k0_off4 k 128#32 96#32) S16x128.size (k0_off4_inb k 1 6), pt (rowsOf v0 k 128#32 96#32) x4 40 (by decide) (shapeCast S16x128 (v5.readCov (HL0 v5 v0 x1 x2 x3 x4 k) (Rect.unit (s := S2560x128) (k0_off4 k 128#32 96#32) S16x128.size (k0_off4_inb k 1 6)).toLoadRect) shapeCasts_S16x128_S16x128)⟩,
   ⟨Rect.unit (s := S2560x128) (k0_off4 k 128#32 80#32) S16x128.size (k0_off4_inb k 1 5), pt (rowsOf v0 k 128#32 80#32) x4 40 (by decide) (shapeCast S16x128 (v5.readCov (HL0 v5 v0 x1 x2 x3 x4 k) (Rect.unit (s := S2560x128) (k0_off4 k 128#32 80#32) S16x128.size (k0_off4_inb k 1 5)).toLoadRect) shapeCasts_S16x128_S16x128)⟩,
   ⟨Rect.unit (s := S2560x128) (k0_off4 k 128#32 64#32) S16x128.size (k0_off4_inb k 1 4), pt (rowsOf v0 k 128#32 64#32) x4 40 (by decide) (shapeCast S16x128 (v5.readCov (HL0 v5 v0 x1 x2 x3 x4 k) (Rect.unit (s := S2560x128) (k0_off4 k 128#32 64#32) S16x128.size (k0_off4_inb k 1 4)).toLoadRect) shapeCasts_S16x128_S16x128)⟩,
   ⟨Rect.unit (s := S2560x128) (k0_off4 k 128#32 48#32) S16x128.size (k0_off4_inb k 1 3), pt (rowsOf v0 k 128#32 48#32) x4 40 (by decide) (shapeCast S16x128 (v5.readCov (HL0 v5 v0 x1 x2 x3 x4 k) (Rect.unit (s := S2560x128) (k0_off4 k 128#32 48#32) S16x128.size (k0_off4_inb k 1 3)).toLoadRect) shapeCasts_S16x128_S16x128)⟩,
   ⟨Rect.unit (s := S2560x128) (k0_off4 k 128#32 32#32) S16x128.size (k0_off4_inb k 1 2), pt (rowsOf v0 k 128#32 32#32) x4 40 (by decide) (shapeCast S16x128 (v5.readCov (HL0 v5 v0 x1 x2 x3 x4 k) (Rect.unit (s := S2560x128) (k0_off4 k 128#32 32#32) S16x128.size (k0_off4_inb k 1 2)).toLoadRect) shapeCasts_S16x128_S16x128)⟩,
   ⟨Rect.unit (s := S2560x128) (k0_off4 k 128#32 16#32) S16x128.size (k0_off4_inb k 1 1), pt (rowsOf v0 k 128#32 16#32) x4 40 (by decide) (shapeCast S16x128 (v5.readCov (HL0 v5 v0 x1 x2 x3 x4 k) (Rect.unit (s := S2560x128) (k0_off4 k 128#32 16#32) S16x128.size (k0_off4_inb k 1 1)).toLoadRect) shapeCasts_S16x128_S16x128)⟩,
   ⟨Rect.unit (s := S2560x128) (k0_off4 k 128#32 0#32) S16x128.size (k0_off4_inb k 1 0), pt (rowsOf v0 k 128#32 0#32) x4 40 (by decide) (shapeCast S16x128 (v5.readCov (HL0 v5 v0 x1 x2 x3 x4 k) (Rect.unit (s := S2560x128) (k0_off4 k 128#32 0#32) S16x128.size (k0_off4_inb k 1 0)).toLoadRect) shapeCasts_S16x128_S16x128)⟩] ++ HL0 v5 v0 x1 x2 x3 x4 k

/-- One trip, for any account `g` of what the stores of `HL1` leave. -/
theorem trip_of (𝒱 : Variants) (c : Dev nD) (bd : Option 𝒱.V) (i : grid0.Coords) (arg1 : Memref sig .tc .vmem S128x1280 .i8) (harg1 : arg1.IsWhole) (arg2 : Memref sig .tc .vmem S160x128 .i32) (harg2 : arg2.IsWhole) (arg3 : Memref sig .tc .vmem S160x128 .i32) (harg3 : arg3.IsWhole) (arg4 : Memref sig .tc .vmem S1x80x128 .i32) (harg4 : arg4.IsWhole) (arg5 : Memref sig .tc .vmem S2560x128 .bf16) (harg5 : arg5.IsWhole) (v0 : IVec S16x128 16) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) (E : Set ℕ) (f_arg5 : BufTy.Contents (Elt F) arg5.view.ty) (g)
    (hg : ∀ L, L = HL1 arg5.view v0 (arg1.view.read (Elt F) X_arg1) (arg2.view.read (Elt F) X_arg2) (arg3.view.read (Elt F) X_arg3) (arg4.view.read (Elt F) X_arg4) k → arg5.view.writes (Elt F) f_arg5 L = g) :
    iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} f_arg5) : sProp 𝕄)
      ⊢ wp frame (wpE (defs₀ (F := F)) 𝒱 (c : Thread nD τ) bd) E (k0_t1_body (F := F) i arg1 harg1 arg2 harg2 arg3 harg3 arg4 harg4 arg5 harg5 v0 k PUnit.unit)
          (fun _ => iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} g) : sProp 𝕄)) := by
  have hk : k.val < 10 := Nat.lt_of_lt_of_le k.isLt k0_t1_abs.2.1
  unfold k0_t1_body
  iintro ⟨HR_arg1, HR_arg2, HR_arg3, HR_arg4, HW_arg5⟩
  sl_exec
  sl_step
  isplitl [HR_arg1]; · iexact HR_arg1
  isplitl [HR_arg2]; · iexact HR_arg2
  isplitl [HR_arg3]; · iexact HR_arg3
  isplitl [HR_arg4]; · iexact HR_arg4
  rw [hg]
  · iexact HW_arg5
  have h0 : trip_of.sl.HW_arg5_16 arg1 arg2 arg3 X_arg1 X_arg2 X_arg3 k = DL (arg1.view.read (Elt F) X_arg1) (arg2.view.read (Elt F) X_arg2) (arg3.view.read (Elt F) X_arg3) k := by
    unfold trip_of.sl.HW_arg5_16 DL
    repeat' apply congrArg₂ List.cons
    all_goals first | rfl | exact congrArg (Sigma.mk _) rfl
  have h1 : trip_of.sl.HW_arg5_24 arg1 arg2 arg3 arg4 arg5 v0 X_arg1 X_arg2 X_arg3 X_arg4 k = HL0 arg5.view v0 (arg1.view.read (Elt F) X_arg1) (arg2.view.read (Elt F) X_arg2) (arg3.view.read (Elt F) X_arg3) (arg4.view.read (Elt F) X_arg4) k := by
    unfold trip_of.sl.HW_arg5_24 HL0
    rw [← h0]
    simp only [List.cons_append, List.nil_append]
    repeat' apply congrArg₂ List.cons
    all_goals first | with_reducible rfl | exact congrArg (Sigma.mk _) rfl
  unfold HL1
  rw [← h1]
  simp only [List.cons_append, List.nil_append]
  repeat' apply congrArg₂ List.cons
  all_goals first | with_reducible rfl | exact congrArg (Sigma.mk _) rfl

end Cert.Prep.Trip

end
-- ==== Proof.PrepSpec.lean ====
/-
  What one entry of a dequantised block is, in plain words of the arrays' words: no vector operation, no tiling.
-/
module

public import Idealize.ShloMosaic.Lib.ValueIdx
public import Idealize.ShloMosaic.Lib.BitcastPair
public import Idealize.ShloMosaic.Lib.Pipeline.Value
public import Idealize.ShloMosaic.Lib.StableHlo.Predicate

@[expose] public section

noncomputable section

namespace Cert.PrepSpec

open Idealize.ShloMosaic Idealize.ShloMosaic.ValueIdx

variable {F : FTy → Type} [FloatOps F]

/-- The low (`p = 0`) or high (`p = 1`) half of a 32-bit word. -/
def half (p : ℕ) (w : BitVec 32) : BitVec 16 := w.extractLsb' (16 * p) 16

/-- The two code nibbles of a byte, each under the bf16 exponent of 128. -/
def codeword (b : BitVec 8) : BitVec 32 :=
  ((b.setWidth 32 &&& 15#32) ||| (IntOp.shli .vector (b.setWidth 32 &&& 240#32) 12#32)) ||| 1124090624#32

/-- Entry (`R`, `c`) of the dequantised block: (code - zero) * scale. -/
def dqAt (x1 : (⟨2, ![128, 1280]⟩ : Shape).Idx → BitVec 8) (x2 x3 : (⟨2, ![160, 128]⟩ : Shape).Idx → BitVec 32) (R : ℕ) (hR : R < 2560) (c : Fin 128) : F .bf16 :=
  FloatOps.mulf (FloatOps.subf (FloatOps.ofBits .bf16 (half (R % 2) (codeword (x1 (ix2 c ⟨R / 2, by omega⟩)))))
    (FloatOps.ofBits .bf16 (half (R % 2) (x3 (ix2 ⟨R / 16, by omega⟩ c))))) (FloatOps.ofBits .bf16 (half (R % 2) (x2 (ix2 ⟨R / 16, by omega⟩ c))))

/-- An entry of row `R` gone over with the first `n` slots of its column: the last slot that names the row wins. -/
def ptAt (x4 : (⟨3, ![1, 80, 128]⟩ : Shape).Idx → BitVec 32) (R : ℕ) (c : Fin 128) : (n : ℕ) → n ≤ 40 → F .bf16 → F .bf16
  | 0, _, w => w
  | n + 1, h, w => if BitVec.ofNat 16 R = half (R % 2) (x4 (ix3 0 ⟨n, by omega⟩ c)) then FloatOps.ofBits .bf16 (half (R % 2) (x4 (ix3 0 ⟨40 + n, by omega⟩ c))) else ptAt x4 R c n (by omega) w

/-- The dequantised block at an index. -/
def dqY (x1 : (⟨2, ![128, 1280]⟩ : Shape).Idx → BitVec 8) (x2 x3 : (⟨2, ![160, 128]⟩ : Shape).Idx → BitVec 32) (y : (⟨2, ![2560, 128]⟩ : Shape).Idx) : F .bf16 :=
  dqAt x1 x2 x3 (y 0).val (y 0).isLt (y 1)

/-- The block the kernel makes, at an index. -/
def outAt (x1 : (⟨2, ![128, 1280]⟩ : Shape).Idx → BitVec 8) (x2 x3 : (⟨2, ![160, 128]⟩ : Shape).Idx → BitVec 32) (x4 : (⟨3, ![1, 80, 128]⟩ : Shape).Idx → BitVec 32)
    (y : (⟨2, ![2560, 128]⟩ : Shape).Idx) : F .bf16 :=
  ptAt x4 (y 0).val (y 1) 40 (Nat.le_refl 40) (dqY x1 x2 x3 y)

/-- The row axis of a rank-2 index. -/
theorem row_ix2 {n m : ℕ} (r : Fin n) (c : Fin m) : Shape.row (s := ⟨2, ![n, m]⟩) (ix2 r c) = r.val := rfl

/-- Eight rows of words read as sixteen rows of halves. -/
theorem bitcast_apply (x : (⟨2, ![8, 128]⟩ : Shape).Idx → BitVec 32) (h : (⟨2, ![8, 128]⟩ : Shape).Bitcasts 32 ⟨2, ![16, 128]⟩ 16) (r : Fin 16) (c : Fin 128) :
    bitcast ⟨2, ![16, 128]⟩ 16 x h (ix2 r c) = half (r.val % 2) (x (ix2 ⟨r.val / 2, by omega⟩ c)) := by
  rw [bitcast_32_16]
  unfold half
  refine congrArg (fun w : BitVec 32 => w.extractLsb' (16 * (r.val % 2)) 16) (congrArg x (funext fun a => Fin.ext ?_))
  fin_cases a
  · exact Shape.Bitcasts.srcIdx_row h _ _ _ _ rfl
  · exact Shape.Bitcasts.srcIdx_other h _ _ _ _ (by decide)

/-- One row of words spread over eight. -/
theorem spread_apply (x : (⟨2, ![1, 128]⟩ : Shape).Idx → BitVec 32) (h : (⟨2, ![1, 128]⟩ : Shape).Broadcasts ⟨2, ![8, 128]⟩) (r : Fin 8) (c : Fin 128) :
    broadcastTo ⟨2, ![8, 128]⟩ x h (ix2 r c) = x (ix2 0 c) :=
  broadcastTo_apply x h _ _ fun a => by fin_cases a <;> rfl

/-- A shape cast of one row of a rank-3 block to rank 2. -/
theorem row3_apply (x : (⟨3, ![1, 1, 128]⟩ : Shape).Idx → BitVec 32) (h : (⟨3, ![1, 1, 128]⟩ : Shape).ShapeCasts ⟨2, ![1, 128]⟩) (c : Fin 128) :
    shapeCast ⟨2, ![1, 128]⟩ x h (ix2 0 c) = x (ix3 0 0 c) := by
  refine shapeCast_apply x h _ _ ?_
  revert c; decide +kernel

end Cert.PrepSpec

end
-- ==== Proof.PrepRows.lean ====
/-
  What one trip of the loop of `Prep`'s kernel leaves, entry by entry: on its 256 rows the entries of `PrepSpec.outAt`,
  and every other row as it was.
-/
module

public import proofs.«01_k».proof.Proof.PrepTrip
public import proofs.«01_k».proof.Proof.PrepSpec
public import Idealize.ShloMosaic.Lib.WritesUnit
public import Idealize.ShloMosaic.Lib.Pipeline.ValueKit.Tiles

@[expose] public section

set_option maxRecDepth 16384
set_option maxHeartbeats 1000000

noncomputable section

namespace Cert.Prep.Trip

open Cert.Prep Cert.Prep.Gen Cert.PrepSpec
open Idealize.ShloMosaic Idealize.ShloMosaic.ValueIdx

variable {F : FTy → Type} [FloatOps F]

variable (x1 : Vec F S128x1280 .i8) (x2 x3 : Vec F S160x128 .i32) (x4 : Vec F S1x80x128 .i32) (k : Fin k0_t1_loop.trips)

/-- The loop makes ten trips. -/
theorem trip_lt : k.val < 10 := Nat.lt_of_lt_of_le k.isLt k0_t1_abs.2.1

/-- One row of scale or zero words, as the kernel spreads it. -/
theorem halves_apply (w : IVec S1x128 32) (r : Fin 16) (c : Fin 128) :
    halves (F := F) w (ix2 r c) = FloatOps.ofBits .bf16 (half (r.val % 2) (w (ix2 0 c))) := by
  unfold halves bitcastToFloat
  rw [shapeCast_self, shapeCast_self]
  refine congrArg (FloatOps.ofBits .bf16) ((bitcast_apply _ _ r c).trans ?_)
  rw [spread_apply]

/-- Two nibbles of a byte of the codes, as the kernel takes them apart. -/
theorem codeWords_apply (v5 : Vec F S128x128 .i8) (g : ℕ) (hg : g < 16) (s : Fin 8) (c : Fin 128) :
    codeWords (F := F) v5 g hg (ix2 s c) = codeword (v5 (ix2 c ⟨8 * g + s.val, by omega⟩)) := by
  have e : extractStridedSlice S8x128 ![8 * g, 0] (k0_pay1 (F := F) v5) (slices_g g hg) (ix2 s c) = (v5 (ix2 c ⟨8 * g + s.val, by omega⟩)).setWidth 32 := by
    refine (extractStridedSlice_apply _ _ _ _ (ix2 ⟨8 * g + s.val, by omega⟩ c) fun a => by fin_cases a <;> simp [ix2]).trans ?_
    unfold k0_pay1
    refine (transpose_apply _ _ _ _ (ix2 c ⟨8 * g + s.val, by omega⟩) fun a => by fin_cases a <;> rfl).trans ?_
    rfl
  show ((extractStridedSlice S8x128 ![8 * g, 0] (k0_pay1 (F := F) v5) (slices_g g hg) (ix2 s c) &&& 15#32) ||| IntOp.shli .vector (extractStridedSlice S8x128 ![8 * g, 0] (k0_pay1 (F := F) v5) (slices_g g hg) (ix2 s c) &&& 240#32) 12#32) ||| 1124090624#32 = _
  rw [e]; rfl

/-- A dequantised group, entry by entry. -/
theorem dq_apply (g : ℕ) (hg : g < 16) (r : Fin 16) (c : Fin 128) (R : ℕ) (hR : R < 2560) (e : R = 256 * k.val + 16 * g + r.val) :
    dq (F := F) x1 x2 x3 k g hg (ix2 r c) = dqAt x1 x2 x3 R hR c := by
  have hk := trip_lt k
  unfold dq dqAt mulf subf
  rw [halves_apply, halves_apply]
  have e2 : R % 2 = r.val % 2 := by omega
  rw [e2]
  have hrow : ∀ x : Vec F S160x128 .i32, View.ld (Val := Elt F) x (Rect.unit (s := S160x128) (k0_off2 k (BitVec.ofNat 32 g)) S1x128.size (k0_off2_inb k ⟨g, hg⟩)) (ix2 0 c) = x (ix2 ⟨R / 16, by omega⟩ c) := fun x =>
    View.ld_unit_apply_of x _ _ _ _ _ fun a => by
      refine Eq.trans ?_ (congrArg (fun n : ℕ => n + _) (congrFun (k0_off2_eq k ⟨g, hg⟩) a).symm)
      fin_cases a
      · show R / 16 = 16 * k.val + g + 0; omega
      · show c.val = 0 + c.val; omega
  refine congrArg₂ _ (congrArg₂ _ (congrArg (FloatOps.ofBits .bf16) ?_) (congrArg (fun w => FloatOps.ofBits .bf16 (half (r.val % 2) w)) (hrow x3))) (congrArg (fun w => FloatOps.ofBits .bf16 (half (r.val % 2) w)) (hrow x2))
  refine (bitcast_apply _ _ r c).trans (congrArg (half (r.val % 2)) ?_)
  rw [codeWords_apply]
  refine congrArg codeword (View.ld_unit_apply_of x1 _ _ _ _ _ fun a => ?_)
  refine Eq.trans ?_ (congrArg (fun n : ℕ => n + _) (congrFun (k0_off1_eq k) a).symm)
  fin_cases a
  · show c.val = 0 + c.val; omega
  · show R / 2 = 128 * k.val + (8 * g + r.val / 2); omega

/-- One row of slots as the kernel spreads it. -/
theorem slotWords_apply (j : ℕ) (hj : j < 80) (r : Fin 16) (c : Fin 128) :
    slotWords (F := F) (slot x4 j hj) (ix2 r c) = half (r.val % 2) (x4 (ix3 0 ⟨j, hj⟩ c)) := by
  unfold slotWords
  rw [shapeCast_self]
  refine (bitcast_apply _ _ r c).trans (congrArg (half (r.val % 2)) ?_)
  rw [spread_apply, row3_apply]
  unfold slot
  refine View.ld_unit_apply_of x4 _ _ _ _ _ fun a => ?_
  fin_cases a
  · rfl
  · show j = j + 0; omega
  · show c.val = 0 + c.val; omega

/-- Going over sixteen rows with the slots, entry by entry. -/
theorem pt_apply (rows : IVec S16x128 16) (r : Fin 16) (c : Fin 128) (R : ℕ) (e : R % 2 = r.val % 2) (hrows : rows (ix2 r c) = BitVec.ofNat 16 R) (n : ℕ) (hn : n ≤ 40) (w : FVec F S16x128 .bf16) :
    pt rows x4 n hn w (ix2 r c) = ptAt x4 R c n hn (w (ix2 r c)) := by
  induction n with
  | zero => rfl
  | succ n ih =>
    unfold pt ptAt
    rw [select_apply, ih, e]
    unfold bitcastToFloat cmpi
    rw [slotWords_apply, slotWords_apply, hrows]
    unfold Scalar.select
    exact if_congr StableHlo.Predicate.cmpi_eq_iff rfl rfl

/-- The row numbers the kernel compares the slots with. -/
theorem rowsOf_apply (h : Fin 2) (g : Fin 8) (r : Fin 16) (c : Fin 128) :
    rowsOf (iota .tc S16x128 16 [0] iota_S16x128_d0_w16) k (BitVec.ofNat 32 (128 * h.val)) (BitVec.ofNat 32 (16 * g.val)) (ix2 r c)
      = BitVec.ofNat 16 (256 * k.val + 128 * h.val + 16 * g.val + r.val) := by
  have hk := trip_lt k
  show BitVec.ofNat 16 (0 * 16 + r.val) + BitVec.setWidth 16 (((0#32 + BitVec.ofNat 32 k.val * 1#32) * 256#32 + BitVec.ofNat 32 (128 * h.val)) + BitVec.ofNat 32 (16 * g.val)) = _
  apply BitVec.eq_of_toNat_eq
  simp only [BitVec.toNat_add, BitVec.toNat_mul, BitVec.toNat_setWidth, BitVec.toNat_ofNat]
  omega

/-- Reading past one stored piece of sixteen rows at row `R`: where the piece lies it is its payload, elsewhere what lay
    under it. -/
theorem read_piece (v : View sig .tc .vmem S2560x128 .bf16) (f : v.ty.Contents (Elt F)) {off : Fin 2 → ℕ} {R : ℕ} (ho : off = ![R, 0])
    (inb : ∀ a, off a + S16x128.size a ≤ S2560x128.size a) (w : (Rect.unit (s := S2560x128) off S16x128.size inb).shape.Idx → Elt F .bf16) (L : List (View.Piece (Elt F) S2560x128 .bf16)) (y : S2560x128.Idx)
    (val : Elt F .bf16) (hw : ∀ r : Fin 16, (y 0).val = R + r.val → w (ix2 r (y 1)) = val) :
    v.read (Elt F) (v.writes (Elt F) f (⟨Rect.unit (s := S2560x128) off S16x128.size inb, w⟩ :: L)) y
      = if R ≤ (y 0).val ∧ (y 0).val < R + 16 then val else v.read (Elt F) (v.writes (Elt F) f L) y := by
  have h1 : (y 1).val < 128 := (y 1).isLt
  rw [View.read_writes_cons_unit v f inb w L y ho]
  by_cases h : R ≤ (y 0).val ∧ (y 0).val < R + 16
  · rw [if_pos h, dif_pos (fun a => by
      fin_cases a
      · exact h
      · exact ⟨Nat.zero_le _, by show (y 1).val < 0 + 128; omega⟩)]
    refine Eq.trans (congrArg w (funext fun a => Fin.ext ?_)) (hw ⟨(y 0).val - R, by omega⟩ (by show _ = R + ((y 0).val - R); omega))
    fin_cases a
    · rfl
    · rfl
  · rw [if_neg h, dif_neg (fun h' => h (h' 0))]

/-- Adding one piece of sixteen rows above the rows that are settled. -/
theorem chain (v : View sig .tc .vmem S2560x128 .bf16) (f : v.ty.Contents (Elt F)) (T B : S2560x128.Idx → Elt F .bf16) {lo R : ℕ} (hlo : lo ≤ R) {off : Fin 2 → ℕ} (ho : off = ![R, 0])
    (inb : ∀ a, off a + S16x128.size a ≤ S2560x128.size a) (w : (Rect.unit (s := S2560x128) off S16x128.size inb).shape.Idx → Elt F .bf16) (L : List (View.Piece (Elt F) S2560x128 .bf16))
    (hw : ∀ (y : S2560x128.Idx) (r : Fin 16), (y 0).val = R + r.val → w (ix2 r (y 1)) = T y)
    (ih : ∀ y : S2560x128.Idx, v.read (Elt F) (v.writes (Elt F) f L) y = if lo ≤ (y 0).val ∧ (y 0).val < R then T y else B y) (y : S2560x128.Idx) :
    v.read (Elt F) (v.writes (Elt F) f (⟨Rect.unit (s := S2560x128) off S16x128.size inb, w⟩ :: L)) y = if lo ≤ (y 0).val ∧ (y 0).val < R + 16 then T y else B y := by
  rw [read_piece v f ho inb w L y (T y) (hw y), ih y]
  by_cases h : R ≤ (y 0).val ∧ (y 0).val < R + 16
  · rw [if_pos h, if_pos (by omega)]
  · rw [if_neg h]
    by_cases h' : lo ≤ (y 0).val ∧ (y 0).val < R
    · rw [if_pos h', if_pos (by omega)]
    · rw [if_neg h', if_neg (by omega)]

/-- The dequantised groups of a trip. -/
theorem read_DL (v : View sig .tc .vmem S2560x128 .bf16) (f : v.ty.Contents (Elt F)) (y : S2560x128.Idx) :
    v.read (Elt F) (v.writes (Elt F) f (DL x1 x2 x3 k)) y
      = if 256 * k.val ≤ (y 0).val ∧ (y 0).val < 256 * k.val + 256 then dqY x1 x2 x3 y else v.read (Elt F) f y := by
  unfold DL
  revert y
  refine chain v f (dqY x1 x2 x3) _ (lo := 256 * k.val) (R := 256 * k.val + 240) (by omega) (k0_off3_eq k 15) _ _ _ (fun y r hr => dq_apply x1 x2 x3 k 15 _ r (y 1) (y 0).val (y 0).isLt hr) ?_
  refine chain v f (dqY x1 x2 x3) _ (lo := 256 * k.val) (R := 256 * k.val + 224) (by omega) (k0_off3_eq k 14) _ _ _ (fun y r hr => dq_apply x1 x2 x3 k 14 _ r (y 1) (y 0).val (y 0).isLt hr) ?_
  refine chain v f (dqY x1 x2 x3) _ (lo := 256 * k.val) (R := 256 * k.val + 208) (by omega) (k0_off3_eq k 13) _ _ _ (fun y r hr => dq_apply x1 x2 x3 k 13 _ r (y 1) (y 0).val (y 0).isLt hr) ?_
  refine chain v f (dqY x1 x2 x3) _ (lo := 256 * k.val) (R := 256 * k.val + 192) (by omega) (k0_off3_eq k 12) _ _ _ (fun y r hr => dq_apply x1 x2 x3 k 12 _ r (y 1) (y 0).val (y 0).isLt hr) ?_
  refine chain v f (dqY x1 x2 x3) _ (lo := 256 * k.val) (R := 256 * k.val + 176) (by omega) (k0_off3_eq k 11) _ _ _ (fun y r hr => dq_apply x1 x2 x3 k 11 _ r (y 1) (y 0).val (y 0).isLt hr) ?_
  refine chain v f (dqY x1 x2 x3) _ (lo := 256 * k.val) (R := 256 * k.val + 160) (by omega) (k0_off3_eq k 10) _ _ _ (fun y r hr => dq_apply x1 x2 x3 k 10 _ r (y 1) (y 0).val (y 0).isLt hr) ?_
  refine chain v f (dqY x1 x2 x3) _ (lo := 256 * k.val) (R := 256 * k.val + 144) (by omega) (k0_off3_eq k 9) _ _ _ (fun y r hr => dq_apply x1 x2 x3 k 9 _ r (y 1) (y 0).val (y 0).isLt hr) ?_
  refine chain v f (dqY x1 x2 x3) _ (lo := 256 * k.val) (R := 256 * k.val + 128) (by omega) (k0_off3_eq k 8) _ _ _ (fun y r hr => dq_apply x1 x2 x3 k 8 _ r (y 1) (y 0).val (y 0).isLt hr) ?_
  refine chain v f (dqY x1 x2 x3) _ (lo := 256 * k.val) (R := 256 * k.val + 112) (by omega) (k0_off3_eq k 7) _ _ _ (fun y r hr => dq_apply x1 x2 x3 k 7 _ r (y 1) (y 0).val (y 0).isLt hr) ?_
  refine chain v f (dqY x1 x2 x3) _ (lo := 256 * k.val) (R := 256 * k.val + 96) (by omega) (k0_off3_eq k 6) _ _ _ (fun y r hr => dq_apply x1 x2 x3 k 6 _ r (y 1) (y 0).val (y 0).isLt hr) ?_
  refine chain v f (dqY x1 x2 x3) _ (lo := 256 * k.val) (R := 256 * k.val + 80) (by omega) (k0_off3_eq k 5) _ _ _ (fun y r hr => dq_apply x1 x2 x3 k 5 _ r (y 1) (y 0).val (y 0).isLt hr) ?_
  refine chain v f (dqY x1 x2 x3) _ (lo := 256 * k.val) (R := 256 * k.val + 64) (by omega) (k0_off3_eq k 4) _ _ _ (fun y r hr => dq_apply x1 x2 x3 k 4 _ r (y 1) (y 0).val (y 0).isLt hr) ?_
  refine chain v f (dqY x1 x2 x3) _ (lo := 256 * k.val) (R := 256 * k.val + 48) (by omega) (k0_off3_eq k 3) _ _ _ (fun y r hr => dq_apply x1 x2 x3 k 3 _ r (y 1) (y 0).val (y 0).isLt hr) ?_
  refine chain v f (dqY x1 x2 x3) _ (lo := 256 * k.val) (R := 256 * k.val + 32) (by omega) (k0_off3_eq k 2) _ _ _ (fun y r hr => dq_apply x1 x2 x3 k 2 _ r (y 1) (y 0).val (y 0).isLt hr) ?_
  refine chain v f (dqY x1 x2 x3) _ (lo := 256 * k.val) (R := 256 * k.val + 16) (by omega) (k0_off3_eq k 1) _ _ _ (fun y r hr => dq_apply x1 x2 x3 k 1 _ r (y 1) (y 0).val (y 0).isLt hr) ?_
  refine chain v f (dqY x1 x2 x3) _ (lo := 256 * k.val) (R := 256 * k.val + 0) (by omega) (k0_off3_eq k 0) _ _ _ (fun y r hr => dq_apply x1 x2 x3 k 0 _ r (y 1) (y 0).val (y 0).isLt hr) ?_
  intro y
  rw [if_neg (by omega)]
  rfl

/-- Sixteen rows loaded back and gone over with the slots, where they were dequantised before. -/
theorem half_apply (v : View sig .tc .vmem S2560x128 .bf16) (L : List (View.Piece (Elt F) S2560x128 .bf16)) (h : Fin 2) (g : Fin 8) (y : S2560x128.Idx) (r : Fin 16)
    (hr : (y 0).val = 256 * k.val + 128 * h.val + 16 * g.val + r.val) (hL : v.read (Elt F) (v.writes (Elt F) v.junk L) y = dqY x1 x2 x3 y) :
    pt (rowsOf (iota .tc S16x128 16 [0] iota_S16x128_d0_w16) k (BitVec.ofNat 32 (128 * h.val)) (BitVec.ofNat 32 (16 * g.val))) x4 40 (Nat.le_refl 40)
        (shapeCast S16x128 (v.readCov L (Rect.unit (s := S2560x128) (k0_off4 k (BitVec.ofNat 32 (128 * h.val)) (BitVec.ofNat 32 (16 * g.val))) S16x128.size (k0_off4_inb k h g)).toLoadRect) shapeCasts_S16x128_S16x128) (ix2 r (y 1))
      = outAt x1 x2 x3 x4 y := by
  refine (pt_apply x4 _ r (y 1) (y 0).val (by omega) ((rowsOf_apply k h g r (y 1)).trans (congrArg _ hr.symm)) 40 (Nat.le_refl 40) _).trans ?_
  unfold outAt
  refine congrArg _ ((congrFun (shapeCast_self _ _) _).trans (Eq.trans ?_ hL))
  unfold View.readCov
  rw [View.readAt_apply]
  refine congrArg _ (funext fun a => Fin.ext ?_)
  refine (Rect.idx_unit_val _ _ _ _ a).trans ?_
  refine Eq.trans (congrArg (fun n : ℕ => n + _) (congrFun (k0_off4_eq k h g) a)) ?_
  fin_cases a
  · exact hr.symm
  · show 0 + (y 1).val = (y 1).val; omega

/-- … with the first half gone over by the slots. -/
theorem read_HL0 (v : View sig .tc .vmem S2560x128 .bf16) (f : v.ty.Contents (Elt F)) (y : S2560x128.Idx) :
    v.read (Elt F) (v.writes (Elt F) f (HL0 v (iota .tc S16x128 16 [0] iota_S16x128_d0_w16) x1 x2 x3 x4 k)) y
      = if 256 * k.val ≤ (y 0).val ∧ (y 0).val < 256 * k.val + 128 then outAt x1 x2 x3 x4 y else v.read (Elt F) (v.writes (Elt F) f (DL x1 x2 x3 k)) y := by
  unfold HL0
  revert y
  refine chain v f (outAt x1 x2 x3 x4) _ (lo := 256 * k.val) (R := 256 * k.val + 112) (by omega) (k0_off4_eq k 0 7) _ _ _ (fun y r hr => half_apply x1 x2 x3 x4 k v _ 0 7 y r hr ((read_DL x1 x2 x3 k v _ y).trans (if_pos (by omega)))) ?_
  refine chain v f (outAt x1 x2 x3 x4) _ (lo := 256 * k.val) (R := 256 * k.val + 96) (by omega) (k0_off4_eq k 0 6) _ _ _ (fun y r hr => half_apply x1 x2 x3 x4 k v _ 0 6 y r hr ((read_DL x1 x2 x3 k v _ y).trans (if_pos (by omega)))) ?_
  refine chain v f (outAt x1 x2 x3 x4) _ (lo := 256 * k.val) (R := 256 * k.val + 80) (by omega) (k0_off4_eq k 0 5) _ _ _ (fun y r hr => half_apply x1 x2 x3 x4 k v _ 0 5 y r hr ((read_DL x1 x2 x3 k v _ y).trans (if_pos (by omega)))) ?_
  refine chain v f (outAt x1 x2 x3 x4) _ (lo := 256 * k.val) (R := 256 * k.val + 64) (by omega) (k0_off4_eq k 0 4) _ _ _ (fun y r hr => half_apply x1 x2 x3 x4 k v _ 0 4 y r hr ((read_DL x1 x2 x3 k v _ y).trans (if_pos (by omega)))) ?_
  refine chain v f (outAt x1 x2 x3 x4) _ (lo := 256 * k.val) (R := 256 * k.val + 48) (by omega) (k0_off4_eq k 0 3) _ _ _ (fun y r hr => half_apply x1 x2 x3 x4 k v _ 0 3 y r hr ((read_DL x1 x2 x3 k v _ y).trans (if_pos (by omega)))) ?_
  refine chain v f (outAt x1 x2 x3 x4) _ (lo := 256 * k.val) (R := 256 * k.val + 32) (by omega) (k0_off4_eq k 0 2) _ _ _ (fun y r hr => half_apply x1 x2 x3 x4 k v _ 0 2 y r hr ((read_DL x1 x2 x3 k v _ y).trans (if_pos (by omega)))) ?_
  refine chain v f (outAt x1 x2 x3 x4) _ (lo := 256 * k.val) (R := 256 * k.val + 16) (by omega) (k0_off4_eq k 0 1) _ _ _ (fun y r hr => half_apply x1 x2 x3 x4 k v _ 0 1 y r hr ((read_DL x1 x2 x3 k v _ y).trans (if_pos (by omega)))) ?_
  refine chain v f (outAt x1 x2 x3 x4) _ (lo := 256 * k.val) (R := 256 * k.val + 0) (by omega) (k0_off4_eq k 0 0) _ _ _ (fun y r hr => half_apply x1 x2 x3 x4 k v _ 0 0 y r hr ((read_DL x1 x2 x3 k v _ y).trans (if_pos (by omega)))) ?_
  intro y
  rw [if_neg (by omega)]
  rfl

/-- … and with the second half gone over. -/
theorem read_HL1 (v : View sig .tc .vmem S2560x128 .bf16) (f : v.ty.Contents (Elt F)) (y : S2560x128.Idx) :
    v.read (Elt F) (v.writes (Elt F) f (HL1 v (iota .tc S16x128 16 [0] iota_S16x128_d0_w16) x1 x2 x3 x4 k)) y
      = if 256 * k.val + 128 ≤ (y 0).val ∧ (y 0).val < 256 * k.val + 256 then outAt x1 x2 x3 x4 y
        else v.read (Elt F) (v.writes (Elt F) f (HL0 v (iota .tc S16x128 16 [0] iota_S16x128_d0_w16) x1 x2 x3 x4 k)) y := by
  unfold HL1
  revert y
  refine chain v f (outAt x1 x2 x3 x4) _ (lo := 256 * k.val + 128) (R := 256 * k.val + 240) (by omega) (k0_off4_eq k 1 7) _ _ _ (fun y r hr => half_apply x1 x2 x3 x4 k v _ 1 7 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 224) (by omega) (k0_off4_eq k 1 6) _ _ _ (fun y r hr => half_apply x1 x2 x3 x4 k v _ 1 6 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 208) (by omega) (k0_off4_eq k 1 5) _ _ _ (fun y r hr => half_apply x1 x2 x3 x4 k v _ 1 5 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 192) (by omega) (k0_off4_eq k 1 4) _ _ _ (fun y r hr => half_apply x1 x2 x3 x4 k v _ 1 4 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 176) (by omega) (k0_off4_eq k 1 3) _ _ _ (fun y r hr => half_apply x1 x2 x3 x4 k v _ 1 3 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 160) (by omega) (k0_off4_eq k 1 2) _ _ _ (fun y r hr => half_apply x1 x2 x3 x4 k v _ 1 2 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 144) (by omega) (k0_off4_eq k 1 1) _ _ _ (fun y r hr => half_apply x1 x2 x3 x4 k v _ 1 1 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 128) (by omega) (k0_off4_eq k 1 0) _ _ _ (fun y r hr => half_apply x1 x2 x3 x4 k v _ 1 0 y r hr ((read_HL0 x1 x2 x3 x4 k v _ y).trans ((if_neg (by omega)).trans ((read_DL x1 x2 x3 k v _ y).trans (if_pos (by omega)))))) ?_
  intro y
  rw [if_neg (by omega)]
  rfl

/-- WHAT A TRIP LEAVES. -/
theorem read_trip (v : View sig .tc .vmem S2560x128 .bf16) (f : v.ty.Contents (Elt F)) (y : S2560x128.Idx) :
    v.read (Elt F) (v.writes (Elt F) f (HL1 v (iota .tc S16x128 16 [0] iota_S16x128_d0_w16) x1 x2 x3 x4 k)) y
      = if 256 * k.val ≤ (y 0).val ∧ (y 0).val < 256 * k.val + 256 then outAt x1 x2 x3 x4 y else v.read (Elt F) f y := by
  rw [read_HL1, read_HL0, read_DL]
  split_ifs <;> first | rfl | (exfalso; omega)

end Cert.Prep.Trip

end
-- ==== Proof.PrepTile.lean ====
/-
  The kernel's body at one grid point, and the run of the whole grid, of `Prep`.

  The body's loop keeps: the rows of the trips made so far hold the entries of `PrepSpec.outAt`.  After its ten trips that
  is the whole block.
-/
module

public import proofs.«01_k».proof.Proof.PrepRows
public import proofs.«01_k».proof.Proof.Gen.Prep.Frame
public import proofs.«01_k».proof.Proof.Gen.Prep.Skeleton
public import Idealize.ShloMosaic.Lib.Pipeline.Value

@[expose] public section

set_option maxRecDepth 16384

noncomputable section

namespace Cert.Prep.Tile

open Cert.Prep Cert.Prep.Gen Cert.Prep.Trip Cert.PrepSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Before trip `k` the rows of the trips before it hold the kernel's entries. -/
def Done (x1 : Vec F S128x1280 .i8) (x2 x3 : Vec F S160x128 .i32) (x4 : Vec F S1x80x128 .i32) (d : Vec F S2560x128 .bf16) (k : ℕ) : Prop :=
  ∀ y : S2560x128.Idx, (y 0).val < 256 * k → d y = outAt x1 x2 x3 x4 y

/-- The loop's invariant. -/
abbrev inv (c : Dev nD) (arg1 : Memref sig .tc .vmem S128x1280 .i8) (harg1 : arg1.IsWhole) (arg2 : Memref sig .tc .vmem S160x128 .i32) (harg2 : arg2.IsWhole) (arg3 : Memref sig .tc .vmem S160x128 .i32) (harg3 : arg3.IsWhole) (arg4 : Memref sig .tc .vmem S1x80x128 .i32) (harg4 : arg4.IsWhole) (arg5 : Memref sig .tc .vmem S2560x128 .bf16) (harg5 : arg5.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : ℕ) (_u : PUnit) : sProp 𝕄 :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (∃ f, (arg5.view.loc (c : Thread nD τ) ↦[arg5.view.set]{fullShare} f) ∗ ⌜Done (arg1.view.read (Elt F) X_arg1) (arg2.view.read (Elt F) X_arg2) (arg3.view.read (Elt F) X_arg3) (arg4.view.read (Elt F) X_arg4) (arg5.view.read (Elt F) f) k⌝))

set_option warn.classDefReducibility false in
/-- The loop by its invariant. -/
@[sl_loop] def loopInv (𝒱 : Variants) (c : Dev nD) (bd : Option 𝒱.V) (E : Set ℕ) (i : grid0.Coords) (arg1 : Memref sig .tc .vmem S128x1280 .i8) (harg1 : arg1.IsWhole) (arg2 : Memref sig .tc .vmem S160x128 .i32) (harg2 : arg2.IsWhole) (arg3 : Memref sig .tc .vmem S160x128 .i32) (harg3 : arg3.IsWhole) (arg4 : Memref sig .tc .vmem S1x80x128 .i32) (harg4 : arg4.IsWhole) (arg5 : Memref sig .tc .vmem S2560x128 .bf16) (harg5 : arg5.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) :
    Idealize.ShloMosaic.LoopInv (M := 𝕄) Idealize.ShloMosaic.frame (wpE defs₀ 𝒱 (c : Thread nD τ) bd) E
      k0_t1_loop.lb k0_t1_loop.ub k0_t1_loop.st k0_t1_ok () (k0_t1_body (F := F) i arg1 harg1 arg2 harg2 arg3 harg3 arg4 harg4 arg5 harg5 (iota .tc S16x128 16 [0] iota_S16x128_d0_w16)) where
  inv := inv (F := F) c arg1 harg1 arg2 harg2 arg3 harg3 arg4 harg4 arg5 harg5 X_arg1 X_arg2 X_arg3 X_arg4
  step k acc := by
    iintro ⟨HR_arg1, HR_arg2, HR_arg3, HR_arg4, ⟨%f_arg5, HW_arg5, %h_arg5⟩⟩
    iapply (wp_wand_r Idealize.ShloMosaic.frame (wpE (defs₀ (F := F)) 𝒱 (c : Thread nD τ) bd) E)
    isplitl [HR_arg1 HR_arg2 HR_arg3 HR_arg4 HW_arg5]
    · iapply (trip_of (F := F) 𝒱 c bd i arg1 harg1 arg2 harg2 arg3 harg3 arg4 harg4 arg5 harg5 (iota .tc S16x128 16 [0] iota_S16x128_d0_w16) X_arg1 X_arg2 X_arg3 X_arg4 k E f_arg5 _ (fun L h => congrArg (arg5.view.writes (Elt F) f_arg5) h))
      isplitl [HR_arg1]; · iexact HR_arg1
      isplitl [HR_arg2]; · iexact HR_arg2
      isplitl [HR_arg3]; · iexact HR_arg3
      isplitl [HR_arg4]; · iexact HR_arg4
      iexact HW_arg5
    · iintro %_ ⟨HR_arg1, HR_arg2, HR_arg3, HR_arg4, HW_arg5⟩
      isplitl [HR_arg1]; · iexact HR_arg1
      isplitl [HR_arg2]; · iexact HR_arg2
      isplitl [HR_arg3]; · iexact HR_arg3
      isplitl [HR_arg4]; · iexact HR_arg4
      iexists _; isplitl [HW_arg5]; · iexact HW_arg5
      ipureintro
      intro y hy
      rw [read_trip]
      by_cases hlo : 256 * k.val ≤ (y 0).val ∧ (y 0).val < 256 * k.val + 256
      · rw [if_pos hlo]
      · rw [if_neg hlo]; exact h_arg5 y (by omega)

/-- The loop makes ten trips. -/
theorem trips_eq : k0_t1_loop.trips = 10 := by decide +kernel

set_option maxHeartbeats 1000000 in
/-- The body on whole staging buffers: from the four operand blocks and anything in the result's buffer it leaves the first
    four as they were and the result's at `outAt`. -/
theorem sound_kernel (c : Dev nD) (E : Set ℕ) (i : grid0.Coords) (arg1 : Memref sig .tc .vmem S128x1280 .i8) (harg1 : arg1.IsWhole) (arg2 : Memref sig .tc .vmem S160x128 .i32) (harg2 : arg2.IsWhole) (arg3 : Memref sig .tc .vmem S160x128 .i32) (harg3 : arg3.IsWhole) (arg4 : Memref sig .tc .vmem S1x80x128 .i32) (harg4 : arg4.IsWhole) (arg5 : Memref sig .tc .vmem S2560x128 .bf16) (harg5 : arg5.IsWhole)
    (x1 : Vec F S128x1280 .i8) (x2 x3 : Vec F S160x128 .i32) (x4 : Vec F S1x80x128 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (outAt x1 x2 x3 x4)) -∗ K ⟨⟩))
      ⊢ wp frame (wpE (defs₀ (F := F)) Variants.none c none) E (cc0_prep i arg1 harg1 arg2 harg2 arg3 harg3 arg4 harg4 arg5 harg5) K := by
  simp only [cc0_prep_eq_skeleton]; unfold cc0_prep_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  have h0 : Done (arg1.view.read (Elt F) f1) (arg2.view.read (Elt F) f2) (arg3.view.read (Elt F) f3) (arg4.view.read (Elt F) f4) (arg5.view.read (Elt F) f5) 0 :=
    fun y hy => absurd hy (Nat.not_lt_zero _)
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine funext fun y => ?_
  have hN : Scf.trips k0_t1_loop.lb k0_t1_loop.ub k0_t1_loop.st = 10 := trips_eq
  rw [hN] at hL5
  exact hL5 y (y 0).isLt

variable (m : (ℓ : Loc nD τ sig) → Buf (Elt F) ℓ) (ρ : Dev nD → PrngReg)

/-- The data of the grid's run: the arrays as the call finds them; after the body the operands' blocks and the block made of
    them; nothing owed and full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt (F := F) (iblk m c 0 t) (iblk m c 1 t) (iblk m c 2 t) (iblk m c 3 t)
  Φ _ := Pipeline.ΦA spec0 c
  q _ := fullShare
  owed _ := 0

/-- The data's initial arrays are the buffers the region is entered with. -/
theorem A_eq (c : Dev nD) (w : Fin cfg0.W) : (dats m 0 c).A w = V m c (Pipeline.arrRef spec0 w) := by
  dsimp only [dats]

/-- What the body leaves in buffer 0 of a point. -/
theorem after0 (c : Dev nD) (t : Fin cfg0.N) : (dats m 0 c).after 0 t = iblk m c 0 t := by dsimp only [dats]
/-- What the body leaves in buffer 1 of a point. -/
theorem after1 (c : Dev nD) (t : Fin cfg0.N) : (dats m 0 c).after 1 t = iblk m c 1 t := by dsimp only [dats]
/-- What the body leaves in buffer 2 of a point. -/
theorem after2 (c : Dev nD) (t : Fin cfg0.N) : (dats m 0 c).after 2 t = iblk m c 2 t := by dsimp only [dats]
/-- What the body leaves in buffer 3 of a point. -/
theorem after3 (c : Dev nD) (t : Fin cfg0.N) : (dats m 0 c).after 3 t = iblk m c 3 t := by dsimp only [dats]
/-- What the body leaves in buffer 4 of a point. -/
theorem after4 (c : Dev nD) (t : Fin cfg0.N) : (dats m 0 c).after 4 t = outAt (F := F) (iblk m c 0 t) (iblk m c 1 t) (iblk m c 2 t) (iblk m c 3 t) := by dsimp only [dats]

/-- What the body finds in buffer 0 of a point. -/
theorem before0 (c : Dev nD) (t : Fin cfg0.N) (d) : (dats m 0 c).before 0 t d = iblk m c 0 t :=
  before0_0_of m (dats m 0 c) (A_eq m c 0) (after0 m c) t d
/-- What the body finds in buffer 1 of a point. -/
theorem before1 (c : Dev nD) (t : Fin cfg0.N) (d) : (dats m 0 c).before 1 t d = iblk m c 1 t :=
  before0_1_of m (dats m 0 c) (A_eq m c 1) (after1 m c) t d
/-- What the body finds in buffer 2 of a point. -/
theorem before2 (c : Dev nD) (t : Fin cfg0.N) (d) : (dats m 0 c).before 2 t d = iblk m c 2 t :=
  before0_2_of m (dats m 0 c) (A_eq m c 2) (after2 m c) t d
/-- What the body finds in buffer 3 of a point. -/
theorem before3 (c : Dev nD) (t : Fin cfg0.N) (d) : (dats m 0 c).before 3 t d = iblk m c 3 t :=
  before0_3_of m (dats m 0 c) (A_eq m c 3) (after3 m c) t d

/-- The body table's row at point `t` is the body on that point's staging buffers. -/
theorem defs₀_row (t : Fin cfg0.N) :
    defs₀ (F := F) .tc cfg0.body (cfg0.bodyArgs t (cfg0.slots t)) = bodyAt0 t := by
  unfold defs₀; rw [Defs.onTc_tc]

/-- The body at any point. -/
theorem body_obligation (c : Dev nD) : BodyObligation (dats m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0 m c t d0, before1 m c t d1, before2 m c t d2, before3 m c t d3]
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  rw [after0, after1, after2, after3, after4]
  isplitl [HΦ]; · iexact HΦ
  isplitl [Ho]; · iexact Ho
  isplitl [H0]; · iexact H0
  isplitl [H1]; · iexact H1
  isplitl [H2]; · iexact H2
  isplitl [H3]; · iexact H3
  iexact H4

set_option backward.isDefEq.respectTransparency.types false in
set_option maxHeartbeats 800000 in
/-- The run: every array ends at what the write-backs of the data make of it, every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends, the arguments stay, every counter ends at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m 0 c).arrAt_in 3 rfl _).trans ((A_eq m c 3).trans (V_main_arg3 m c)))⟩, h.2⟩) (run m ρ)

end Cert.Prep.Tile

end
-- ==== Proof.PrepIdealTrip.lean ====
/-
  One trip of the loop of `PrepIdeal`'s kernel: what it stores, as a list of pieces in the program's own vector operations.

  A trip makes 256 rows of the block.  It stores the sixteen dequantised groups first (`DL`), then goes over the first
  half of them with the forty outlier slots (`HL0`) and over the second half (`HL1`).
-/
module

public import proofs.«01_k».proof.Proof.Gen.PrepIdeal.Skeleton
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 65536
set_option maxHeartbeats 4000000

noncomputable section

namespace Cert.PrepIdeal.Trip

open Cert.PrepIdeal Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Every group's eight rows of code words lie in the transposed block of codes. -/
theorem slices_g (g : ℕ) (hg : g < 16) : S128x128.Slices ![8 * g, 0] S8x128 := by
  have : ∀ g : Fin 16, S128x128.Slices ![8 * g.val, 0] S8x128 := by decide
  exact this ⟨g, hg⟩

/-- Every slot's row lies in the block of slots. -/
theorem inb_e (j : ℕ) (hj : j < 80) : ∀ a, (![0, j, 0] : Fin 3 → Nat) a + S1x1x128.size a ≤ S1x80x128.size a := by
  intro a; fin_cases a
  · exact Nat.le_refl 1
  · show j + 1 ≤ 80; omega
  · exact Nat.le_refl 128

/-- Eight rows of 32-bit words taken as sixteen rows of bf16, the same words in each row. -/
def halves (w : IVec S1x128 32) : FVec F S16x128 .bf16 :=
  bitcastToFloat .bf16 (bitcast S16x128 16 (broadcastTo S8x128 (shapeCast S1x128 (shapeCast S1x128 w shapeCasts_S1x128_S1x128) shapeCasts_S1x128_S1x128) broadcasts_S1x128_S8x128) bitcasts_S8x128_w32_S16x128_w16)

/-- Two code nibbles of a word, each placed under the bf16 exponent of 128. -/
def codeWords (v5 : Vec F S128x128 .i8) (g : ℕ) (hg : g < 16) : IVec S8x128 32 :=
  ori (ori (andi (extractStridedSlice S8x128 ![8 * g, 0] (k0_pay1 (F := F) v5) (slices_g g hg)) (broadcast S8x128 15#32))
    (shli (andi (extractStridedSlice S8x128 ![8 * g, 0] (k0_pay1 (F := F) v5) (slices_g g hg)) (broadcast S8x128 240#32)) (broadcast S8x128 12#32))) (broadcast S8x128 1124090624#32)

/-- Group `g` of trip `k`, dequantised. -/
def dq (x1 : Vec F S128x1280 .i8) (x2 x3 : Vec F S160x128 .i32) (k : Fin k0_t1_loop.trips) (g : ℕ) (hg : g < 16) : FVec F S16x128 .bf16 :=
  mulf (subf (bitcastToFloat .bf16 (bitcast S16x128 16 (codeWords (F := F) (View.ld (Val := Elt F) x1 (Rect.unit (s := S128x1280) (k0_off1 k) S128x128.size (k0_off1_inb k))) g hg) bitcasts_S8x128_w32_S16x128_w16))
      (halves (View.ld (Val := Elt F) x3 (Rect.unit (s := S160x128) (k0_off2 k (BitVec.ofNat 32 g)) S1x128.size (k0_off2_inb k ⟨g, hg⟩)))))
    (halves (View.ld (Val := Elt F) x2 (Rect.unit (s := S160x128) (k0_off2 k (BitVec.ofNat 32 g)) S1x128.size (k0_off2_inb k ⟨g, hg⟩))))

/-- The row numbers of the sixteen rows that start at `256 * k + h + g`. -/
def rowsOf (v0 : IVec S16x128 16) (k : Fin k0_t1_loop.trips) (h g : BitVec 32) : IVec S16x128 16 :=
  addi v0 (trunci 16 (broadcast S16x128 (Scalar.addi (Scalar.addi (Scalar.muli (Scf.iv 0#32 1#32 k) 256#32) h) g)) natLt_16_32)

/-- Row `j` of the slots' block. -/
def slot (x4 : Vec F S1x80x128 .i32) (j : ℕ) (hj : j < 80) : Vec F S1x1x128 .i32 :=
  View.ld (Val := Elt F) x4 (Rect.unit (s := S1x80x128) ![0, j, 0] S1x1x128.size (inb_e j hj))

/-- A slot's row as sixteen rows of 16-bit words. -/
def slotWords (e : Vec F S1x1x128 .i32) : IVec S16x128 16 :=
  bitcast S16x128 16 (broadcastTo S8x128 (shapeCast S1x128 (shapeCast S1x128 e shapeCasts_S1x1x128_S1x128) shapeCasts_S1x128_S1x128) broadcasts_S1x128_S8x128) bitcasts_S8x128_w32_S16x128_w16

/-- Sixteen rows gone over with the first `n` slots. -/
def pt (rows : IVec S16x128 16) (x4 : Vec F S1x80x128 .i32) : (n : ℕ) → n ≤ 40 → FVec F S16x128 .bf16 → FVec F S16x128 .bf16
  | 0, _, w => w
  | n + 1, h, w => select (cmpi .eq rows (slotWords (F := F) (slot x4 n (by omega)))) (bitcastToFloat .bf16 (slotWords (F := F) (slot x4 (40 + n) (by omega)))) (pt rows x4 n (by omega) w)

/-- The dequantised groups a trip stores, last first. -/
def DL (x1 : Vec F S128x1280 .i8) (x2 x3 : Vec F S160x128 .i32) (k : Fin k0_t1_loop.trips) : List (View.Piece (Elt F) S2560x128 .bf16) :=
  [⟨Rect.unit (s := S2560x128) (k0_off3 k 15#32) S16x128.size (k0_off3_inb k 15), dq x1 x2 x3 k 15 (by decide)⟩,
   ⟨Rect.unit (s := S2560x128) (k0_off3 k 14#32) S16x128.size (k0_off3_inb k 14), dq x1 x2 x3 k 14 (by decide)⟩,
   ⟨Rect.unit (s := S2560x128) (k0_off3 k 13#32) S16x128.size (k0_off3_inb k 13), dq x1 x2 x3 k 13 (by decide)⟩,
   ⟨Rect.unit (s := S2560x128) (k0_off3 k 12#32) S16x128.size (k0_off3_inb k 12), dq x1 x2 x3 k 12 (by decide)⟩,
   ⟨Rect.unit (s := S2560x128) (k0_off3 k 11#32) S16x128.size (k0_off3_inb k 11), dq x1 x2 x3 k 11 (by decide)⟩,
   ⟨Rect.unit (s := S2560x128) (k0_off3 k 10#32) S16x128.size (k0_off3_inb k 10), dq x1 x2 x3 k 10 (by decide)⟩,
   ⟨Rect.unit (s := S2560x128) (k0_off3 k 9#32) S16x128.size (k0_off3_inb k 9), dq x1 x2 x3 k 9 (by decide)⟩,
   ⟨Rect.unit (s := S2560x128) (k0_off3 k 8#32) S16x128.size (k0_off3_inb k 8), dq x1 x2 x3 k 8 (by decide)⟩,
   ⟨Rect.unit (s := S2560x128) (k0_off3 k 7#32) S16x128.size (k0_off3_inb k 7), dq x1 x2 x3 k 7 (by decide)⟩,
   ⟨Rect.unit (s := S2560x128) (k0_off3 k 6#32) S16x128.size (k0_off3_inb k 6), dq x1 x2 x3 k 6 (by decide)⟩,
   ⟨Rect.unit (s := S2560x128) (k0_off3 k 5#32) S16x128.size (k0_off3_inb k 5), dq x1 x2 x3 k 5 (by decide)⟩,
   ⟨Rect.unit (s := S2560x128) (k0_off3 k 4#32) S16x128.size (k0_off3_inb k 4), dq x1 x2 x3 k 4 (by decide)⟩,
   ⟨Rect.unit (s := S2560x128) (k0_off3 k 3#32) S16x128.size (k0_off3_inb k 3), dq x1 x2 x3 k 3 (by decide)⟩,
   ⟨Rect.unit (s := S2560x128) (k0_off3 k 2#32) S16x128.size (k0_off3_inb k 2), dq x1 x2 x3 k 2 (by decide)⟩,
   ⟨Rect.unit (s := S2560x128) (k0_off3 k 1#32) S16x128.size (k0_off3_inb k 1), dq x1 x2 x3 k 1 (by decide)⟩,
   ⟨Rect.unit (s := S2560x128) (k0_off3 k 0#32) S16x128.size (k0_off3_inb k 0), dq x1 x2 x3 k 0 (by decide)⟩]

/-- With the first half gone over by the slots. -/
def HL0 (v5 : View sig .tc .vmem S2560x128 .bf16) (v0 : IVec S16x128 16) (x1 : Vec F S128x1280 .i8) (x2 x3 : Vec F S160x128 .i32) (x4 : Vec F S1x80x128 .i32) (k : Fin k0_t1_loop.trips) : List (View.Piece (Elt F) S2560x128 .bf16) :=
  [⟨Rect.unit (s := S2560x128) (k0_off4 k 0#32 112#32) S16x128.size (k0_off4_inb k 0 7), pt (rowsOf v0 k 0#32 112#32) x4 40 (by decide) (shapeCast S16x128 (v5.readCov (DL x1 x2 x3 k) (Rect.unit (s := S2560x128) (k0_off4 k 0#32 112#32) S16x128.size (k0_off4_inb k 0 7)).toLoadRect) shapeCasts_S16x128_S16x128)⟩,
   ⟨Rect.unit (s := S2560x128) (k0_off4 k 0#32 96#32) S16x128.size (k0_off4_inb k 0 6), pt (rowsOf v0 k 0#32 96#32) x4 40 (by decide) (shapeCast S16x128 (v5.readCov (DL x1 x2 x3 k) (Rect.unit (s := S2560x128) (k0_off4 k 0#32 96#32) S16x128.size (k0_off4_inb k 0 6)).toLoadRect) shapeCasts_S16x128_S16x128)⟩,
   ⟨Rect.unit (s := S2560x128) (k0_off4 k 0#32 80#32) S16x128.size (k0_off4_inb k 0 5), pt (rowsOf v0 k 0#32 80#32) x4 40 (by decide) (shapeCast S16x128 (v5.readCov (DL x1 x2 x3 k) (Rect.unit (s := S2560x128) (k0_off4 k 0#32 80#32) S16x128.size (k0_off4_inb k 0 5)).toLoadRect) shapeCasts_S16x128_S16x128)⟩,
   ⟨Rect.unit (s := S2560x128) (k0_off4 k 0#32 64#32) S16x128.size (k0_off4_inb k 0 4), pt (rowsOf v0 k 0#32 64#32) x4 40 (by decide) (shapeCast S16x128 (v5.readCov (DL x1 x2 x3 k) (Rect.unit (s := S2560x128) (k0_off4 k 0#32 64#32) S16x128.size (k0_off4_inb k 0 4)).toLoadRect) shapeCasts_S16x128_S16x128)⟩,
   ⟨Rect.unit (s := S2560x128) (k0_off4 k 0#32 48#32) S16x128.size (k0_off4_inb k 0 3), pt (rowsOf v0 k 0#32 48#32) x4 40 (by decide) (shapeCast S16x128 (v5.readCov (DL x1 x2 x3 k) (Rect.unit (s := S2560x128) (k0_off4 k 0#32 48#32) S16x128.size (k0_off4_inb k 0 3)).toLoadRect) shapeCasts_S16x128_S16x128)⟩,
   ⟨Rect.unit (s := S2560x128) (k0_off4 k 0#32 32#32) S16x128.size (k0_off4_inb k 0 2), pt (rowsOf v0 k 0#32 32#32) x4 40 (by decide) (shapeCast S16x128 (v5.readCov (DL x1 x2 x3 k) (Rect.unit (s := S2560x128) (k0_off4 k 0#32 32#32) S16x128.size (k0_off4_inb k 0 2)).toLoadRect) shapeCasts_S16x128_S16x128)⟩,
   ⟨Rect.unit (s := S2560x128) (k0_off4 k 0#32 16#32) S16x128.size (k0_off4_inb k 0 1), pt (rowsOf v0 k 0#32 16#32) x4 40 (by decide) (shapeCast S16x128 (v5.readCov (DL x1 x2 x3 k) (Rect.unit (s := S2560x128) (k0_off4 k 0#32 16#32) S16x128.size (k0_off4_inb k 0 1)).toLoadRect) shapeCasts_S16x128_S16x128)⟩,
   ⟨Rect.unit (s := S2560x128) (k0_off4 k 0#32 0#32) S16x128.size (k0_off4_inb k 0 0), pt (rowsOf v0 k 0#32 0#32) x4 40 (by decide) (shapeCast S16x128 (v5.readCov (DL x1 x2 x3 k) (Rect.unit (s := S2560x128) (k0_off4 k 0#32 0#32) S16x128.size (k0_off4_inb k 0 0)).toLoadRect) shapeCasts_S16x128_S16x128)⟩] ++ DL x1 x2 x3 k

/-- With the second half gone over by the slots: what a trip stores. -/
def HL1 (v5 : View sig .tc .vmem S2560x128 .bf16) (v0 : IVec S16x128 16) (x1 : Vec F S128x1280 .i8) (x2 x3 : Vec F S160x128 .i32) (x4 : Vec F S1x80x128 .i32) (k : Fin k0_t1_loop.trips) : List (View.Piece (Elt F) S2560x128 .bf16) :=
  [⟨Rect.unit (s := S2560x128) (k0_off4 k 128#32 112#32) S16x128.size (k0_off4_inb k 1 7), pt (rowsOf v0 k 128#32 112#32) x4 40 (by decide) (shapeCast S16x128 (v5.readCov (HL0 v5 v0 x1 x2 x3 x4 k) (Rect.unit (s := S2560x128) (k0_off4 k 128#32 112#32) S16x128.size (k0_off4_inb k 1 7)).toLoadRect) shapeCasts_S16x128_S16x128)⟩,
   ⟨Rect.unit (s := S2560x128) (k0_off4 k 128#32 96#32) S16x128.size (k0_off4_inb k 1 6), pt (rowsOf v0 k 128#32 96#32) x4 40 (by decide) (shapeCast S16x128 (v5.readCov (HL0 v5 v0 x1 x2 x3 x4 k) (Rect.unit (s := S2560x128) (k0_off4 k 128#32 96#32) S16x128.size (k0_off4_inb k 1 6)).toLoadRect) shapeCasts_S16x128_S16x128)⟩,
   ⟨Rect.unit (s := S2560x128) (k0_off4 k 128#32 80#32) S16x128.size (k0_off4_inb k 1 5), pt (rowsOf v0 k 128#32 80#32) x4 40 (by decide) (shapeCast S16x128 (v5.readCov (HL0 v5 v0 x1 x2 x3 x4 k) (Rect.unit (s := S2560x128) (k0_off4 k 128#32 80#32) S16x128.size (k0_off4_inb k 1 5)).toLoadRect) shapeCasts_S16x128_S16x128)⟩,
   ⟨Rect.unit (s := S2560x128) (k0_off4 k 128#32 64#32) S16x128.size (k0_off4_inb k 1 4), pt (rowsOf v0 k 128#32 64#32) x4 40 (by decide) (shapeCast S16x128 (v5.readCov (HL0 v5 v0 x1 x2 x3 x4 k) (Rect.unit (s := S2560x128) (k0_off4 k 128#32 64#32) S16x128.size (k0_off4_inb k 1 4)).toLoadRect) shapeCasts_S16x128_S16x128)⟩,
   ⟨Rect.unit (s := S2560x128) (k0_off4 k 128#32 48#32) S16x128.size (k0_off4_inb k 1 3), pt (rowsOf v0 k 128#32 48#32) x4 40 (by decide) (shapeCast S16x128 (v5.readCov (HL0 v5 v0 x1 x2 x3 x4 k) (Rect.unit (s := S2560x128) (k0_off4 k 128#32 48#32) S16x128.size (k0_off4_inb k 1 3)).toLoadRect) shapeCasts_S16x128_S16x128)⟩,
   ⟨Rect.unit (s := S2560x128) (k0_off4 k 128#32 32#32) S16x128.size (k0_off4_inb k 1 2), pt (rowsOf v0 k 128#32 32#32) x4 40 (by decide) (shapeCast S16x128 (v5.readCov (HL0 v5 v0 x1 x2 x3 x4 k) (Rect.unit (s := S2560x128) (k0_off4 k 128#32 32#32) S16x128.size (k0_off4_inb k 1 2)).toLoadRect) shapeCasts_S16x128_S16x128)⟩,
   ⟨Rect.unit (s := S2560x128) (k0_off4 k 128#32 16#32) S16x128.size (k0_off4_inb k 1 1), pt (rowsOf v0 k 128#32 16#32) x4 40 (by decide) (shapeCast S16x128 (v5.readCov (HL0 v5 v0 x1 x2 x3 x4 k) (Rect.unit (s := S2560x128) (k0_off4 k 128#32 16#32) S16x128.size (k0_off4_inb k 1 1)).toLoadRect) shapeCasts_S16x128_S16x128)⟩,
   ⟨Rect.unit (s := S2560x128) (k0_off4 k 128#32 0#32) S16x128.size (k0_off4_inb k 1 0), pt (rowsOf v0 k 128#32 0#32) x4 40 (by decide) (shapeCast S16x128 (v5.readCov (HL0 v5 v0 x1 x2 x3 x4 k) (Rect.unit (s := S2560x128) (k0_off4 k 128#32 0#32) S16x128.size (k0_off4_inb k 1 0)).toLoadRect) shapeCasts_S16x128_S16x128)⟩] ++ HL0 v5 v0 x1 x2 x3 x4 k

/-- One trip, for any account `g` of what the stores of `HL1` leave. -/
theorem trip_of (𝒱 : Variants) (c : Dev nD) (bd : Option 𝒱.V) (i : grid0.Coords) (arg1 : Memref sig .tc .vmem S128x1280 .i8) (harg1 : arg1.IsWhole) (arg2 : Memref sig .tc .vmem S160x128 .i32) (harg2 : arg2.IsWhole) (arg3 : Memref sig .tc .vmem S160x128 .i32) (harg3 : arg3.IsWhole) (arg4 : Memref sig .tc .vmem S1x80x128 .i32) (harg4 : arg4.IsWhole) (arg5 : Memref sig .tc .vmem S2560x128 .bf16) (harg5 : arg5.IsWhole) (v0 : IVec S16x128 16) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) (E : Set ℕ) (f_arg5 : BufTy.Contents (Elt F) arg5.view.ty) (g)
    (hg : ∀ L, L = HL1 arg5.view v0 (arg1.view.read (Elt F) X_arg1) (arg2.view.read (Elt F) X_arg2) (arg3.view.read (Elt F) X_arg3) (arg4.view.read (Elt F) X_arg4) k → arg5.view.writes (Elt F) f_arg5 L = g) :
    iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} f_arg5) : sProp 𝕄)
      ⊢ wp frame (wpE (defs₀ (F := F)) 𝒱 (c : Thread nD τ) bd) E (k0_t1_body (F := F) i arg1 harg1 arg2 harg2 arg3 harg3 arg4 harg4 arg5 harg5 v0 k PUnit.unit)
          (fun _ => iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} g) : sProp 𝕄)) := by
  have hk : k.val < 10 := Nat.lt_of_lt_of_le k.isLt k0_t1_abs.2.1
  unfold k0_t1_body
  iintro ⟨HR_arg1, HR_arg2, HR_arg3, HR_arg4, HW_arg5⟩
  sl_exec
  sl_step
  isplitl [HR_arg1]; · iexact HR_arg1
  isplitl [HR_arg2]; · iexact HR_arg2
  isplitl [HR_arg3]; · iexact HR_arg3
  isplitl [HR_arg4]; · iexact HR_arg4
  rw [hg]
  · iexact HW_arg5
  have h0 : trip_of.sl.HW_arg5_16 arg1 arg2 arg3 X_arg1 X_arg2 X_arg3 k = DL (arg1.view.read (Elt F) X_arg1) (arg2.view.read (Elt F) X_arg2) (arg3.view.read (Elt F) X_arg3) k := by
    unfold trip_of.sl.HW_arg5_16 DL
    repeat' apply congrArg₂ List.cons
    all_goals first | rfl | exact congrArg (Sigma.mk _) rfl
  have h1 : trip_of.sl.HW_arg5_24 arg1 arg2 arg3 arg4 arg5 v0 X_arg1 X_arg2 X_arg3 X_arg4 k = HL0 arg5.view v0 (arg1.view.read (Elt F) X_arg1) (arg2.view.read (Elt F) X_arg2) (arg3.view.read (Elt F) X_arg3) (arg4.view.read (Elt F) X_arg4) k := by
    unfold trip_of.sl.HW_arg5_24 HL0
    rw [← h0]
    simp only [List.cons_append, List.nil_append]
    repeat' apply congrArg₂ List.cons
    all_goals first | with_reducible rfl | exact congrArg (Sigma.mk _) rfl
  unfold HL1
  rw [← h1]
  simp only [List.cons_append, List.nil_append]
  repeat' apply congrArg₂ List.cons
  all_goals first | with_reducible rfl | exact congrArg (Sigma.mk _) rfl

end Cert.PrepIdeal.Trip

end
-- ==== Proof.PrepIdealRows.lean ====
/-
  What one trip of the loop of `PrepIdeal`'s kernel leaves, entry by entry: on its 256 rows the entries of `PrepSpec.outAt`,
  and every other row as it was.
-/
module

public import proofs.«01_k».proof.Proof.PrepIdealTrip
public import proofs.«01_k».proof.Proof.PrepSpec
public import Idealize.ShloMosaic.Lib.WritesUnit
public import Idealize.ShloMosaic.Lib.Pipeline.ValueKit.Tiles

@[expose] public section

set_option maxRecDepth 16384
set_option maxHeartbeats 1000000

noncomputable section

namespace Cert.PrepIdeal.Trip

open Cert.PrepIdeal Cert.PrepIdeal.Gen Cert.PrepSpec
open Idealize.ShloMosaic Idealize.ShloMosaic.ValueIdx

variable {F : FTy → Type} [FloatOps F]

variable (x1 : Vec F S128x1280 .i8) (x2 x3 : Vec F S160x128 .i32) (x4 : Vec F S1x80x128 .i32) (k : Fin k0_t1_loop.trips)

/-- The loop makes ten trips. -/
theorem trip_lt : k.val < 10 := Nat.lt_of_lt_of_le k.isLt k0_t1_abs.2.1

/-- One row of scale or zero words, as the kernel spreads it. -/
theorem halves_apply (w : IVec S1x128 32) (r : Fin 16) (c : Fin 128) :
    halves (F := F) w (ix2 r c) = FloatOps.ofBits .bf16 (half (r.val % 2) (w (ix2 0 c))) := by
  unfold halves bitcastToFloat
  rw [shapeCast_self, shapeCast_self]
  refine congrArg (FloatOps.ofBits .bf16) ((bitcast_apply _ _ r c).trans ?_)
  rw [spread_apply]

/-- Two nibbles of a byte of the codes, as the kernel takes them apart. -/
theorem codeWords_apply (v5 : Vec F S128x128 .i8) (g : ℕ) (hg : g < 16) (s : Fin 8) (c : Fin 128) :
    codeWords (F := F) v5 g hg (ix2 s c) = codeword (v5 (ix2 c ⟨8 * g + s.val, by omega⟩)) := by
  have e : extractStridedSlice S8x128 ![8 * g, 0] (k0_pay1 (F := F) v5) (slices_g g hg) (ix2 s c) = (v5 (ix2 c ⟨8 * g + s.val, by omega⟩)).setWidth 32 := by
    refine (extractStridedSlice_apply _ _ _ _ (ix2 ⟨8 * g + s.val, by omega⟩ c) fun a => by fin_cases a <;> simp [ix2]).trans ?_
    unfold k0_pay1
    refine (transpose_apply _ _ _ _ (ix2 c ⟨8 * g + s.val, by omega⟩) fun a => by fin_cases a <;> rfl).trans ?_
    rfl
  show ((extractStridedSlice S8x128 ![8 * g, 0] (k0_pay1 (F := F) v5) (slices_g g hg) (ix2 s c) &&& 15#32) ||| IntOp.shli .vector (extractStridedSlice S8x128 ![8 * g, 0] (k0_pay1 (F := F) v5) (slices_g g hg) (ix2 s c) &&& 240#32) 12#32) ||| 1124090624#32 = _
  rw [e]; rfl

/-- A dequantised group, entry by entry. -/
theorem dq_apply (g : ℕ) (hg : g < 16) (r : Fin 16) (c : Fin 128) (R : ℕ) (hR : R < 2560) (e : R = 256 * k.val + 16 * g + r.val) :
    dq (F := F) x1 x2 x3 k g hg (ix2 r c) = dqAt x1 x2 x3 R hR c := by
  have hk := trip_lt k
  unfold dq dqAt mulf subf
  rw [halves_apply, halves_apply]
  have e2 : R % 2 = r.val % 2 := by omega
  rw [e2]
  have hrow : ∀ x : Vec F S160x128 .i32, View.ld (Val := Elt F) x (Rect.unit (s := S160x128) (k0_off2 k (BitVec.ofNat 32 g)) S1x128.size (k0_off2_inb k ⟨g, hg⟩)) (ix2 0 c) = x (ix2 ⟨R / 16, by omega⟩ c) := fun x =>
    View.ld_unit_apply_of x _ _ _ _ _ fun a => by
      refine Eq.trans ?_ (congrArg (fun n : ℕ => n + _) (congrFun (k0_off2_eq k ⟨g, hg⟩) a).symm)
      fin_cases a
      · show R / 16 = 16 * k.val + g + 0; omega
      · show c.val = 0 + c.val; omega
  refine congrArg₂ _ (congrArg₂ _ (congrArg (FloatOps.ofBits .bf16) ?_) (congrArg (fun w => FloatOps.ofBits .bf16 (half (r.val % 2) w)) (hrow x3))) (congrArg (fun w => FloatOps.ofBits .bf16 (half (r.val % 2) w)) (hrow x2))
  refine (bitcast_apply _ _ r c).trans (congrArg (half (r.val % 2)) ?_)
  rw [codeWords_apply]
  refine congrArg codeword (View.ld_unit_apply_of x1 _ _ _ _ _ fun a => ?_)
  refine Eq.trans ?_ (congrArg (fun n : ℕ => n + _) (congrFun (k0_off1_eq k) a).symm)
  fin_cases a
  · show c.val = 0 + c.val; omega
  · show R / 2 = 128 * k.val + (8 * g + r.val / 2); omega

/-- One row of slots as the kernel spreads it. -/
theorem slotWords_apply (j : ℕ) (hj : j < 80) (r : Fin 16) (c : Fin 128) :
    slotWords (F := F) (slot x4 j hj) (ix2 r c) = half (r.val % 2) (x4 (ix3 0 ⟨j, hj⟩ c)) := by
  unfold slotWords
  rw [shapeCast_self]
  refine (bitcast_apply _ _ r c).trans (congrArg (half (r.val % 2)) ?_)
  rw [spread_apply, row3_apply]
  unfold slot
  refine View.ld_unit_apply_of x4 _ _ _ _ _ fun a => ?_
  fin_cases a
  · rfl
  · show j = j + 0; omega
  · show c.val = 0 + c.val; omega

/-- Going over sixteen rows with the slots, entry by entry. -/
theorem pt_apply (rows : IVec S16x128 16) (r : Fin 16) (c : Fin 128) (R : ℕ) (e : R % 2 = r.val % 2) (hrows : rows (ix2 r c) = BitVec.ofNat 16 R) (n : ℕ) (hn : n ≤ 40) (w : FVec F S16x128 .bf16) :
    pt rows x4 n hn w (ix2 r c) = ptAt x4 R c n hn (w (ix2 r c)) := by
  induction n with
  | zero => rfl
  | succ n ih =>
    unfold pt ptAt
    rw [select_apply, ih, e]
    unfold bitcastToFloat cmpi
    rw [slotWords_apply, slotWords_apply, hrows]
    unfold Scalar.select
    exact if_congr StableHlo.Predicate.cmpi_eq_iff rfl rfl

/-- The row numbers the kernel compares the slots with. -/
theorem rowsOf_apply (h : Fin 2) (g : Fin 8) (r : Fin 16) (c : Fin 128) :
    rowsOf (iota .tc S16x128 16 [0] iota_S16x128_d0_w16) k (BitVec.ofNat 32 (128 * h.val)) (BitVec.ofNat 32 (16 * g.val)) (ix2 r c)
      = BitVec.ofNat 16 (256 * k.val + 128 * h.val + 16 * g.val + r.val) := by
  have hk := trip_lt k
  show BitVec.ofNat 16 (0 * 16 + r.val) + BitVec.setWidth 16 (((0#32 + BitVec.ofNat 32 k.val * 1#32) * 256#32 + BitVec.ofNat 32 (128 * h.val)) + BitVec.ofNat 32 (16 * g.val)) = _
  apply BitVec.eq_of_toNat_eq
  simp only [BitVec.toNat_add, BitVec.toNat_mul, BitVec.toNat_setWidth, BitVec.toNat_ofNat]
  omega

/-- Reading past one stored piece of sixteen rows at row `R`: where the piece lies it is its payload, elsewhere what lay
    under it. -/
theorem read_piece (v : View sig .tc .vmem S2560x128 .bf16) (f : v.ty.Contents (Elt F)) {off : Fin 2 → ℕ} {R : ℕ} (ho : off = ![R, 0])
    (inb : ∀ a, off a + S16x128.size a ≤ S2560x128.size a) (w : (Rect.unit (s := S2560x128) off S16x128.size inb).shape.Idx → Elt F .bf16) (L : List (View.Piece (Elt F) S2560x128 .bf16)) (y : S2560x128.Idx)
    (val : Elt F .bf16) (hw : ∀ r : Fin 16, (y 0).val = R + r.val → w (ix2 r (y 1)) = val) :
    v.read (Elt F) (v.writes (Elt F) f (⟨Rect.unit (s := S2560x128) off S16x128.size inb, w⟩ :: L)) y
      = if R ≤ (y 0).val ∧ (y 0).val < R + 16 then val else v.read (Elt F) (v.writes (Elt F) f L) y := by
  have h1 : (y 1).val < 128 := (y 1).isLt
  rw [View.read_writes_cons_unit v f inb w L y ho]
  by_cases h : R ≤ (y 0).val ∧ (y 0).val < R + 16
  · rw [if_pos h, dif_pos (fun a => by
      fin_cases a
      · exact h
      · exact ⟨Nat.zero_le _, by show (y 1).val < 0 + 128; omega⟩)]
    refine Eq.trans (congrArg w (funext fun a => Fin.ext ?_)) (hw ⟨(y 0).val - R, by omega⟩ (by show _ = R + ((y 0).val - R); omega))
    fin_cases a
    · rfl
    · rfl
  · rw [if_neg h, dif_neg (fun h' => h (h' 0))]

/-- Adding one piece of sixteen rows above the rows that are settled. -/
theorem chain (v : View sig .tc .vmem S2560x128 .bf16) (f : v.ty.Contents (Elt F)) (T B : S2560x128.Idx → Elt F .bf16) {lo R : ℕ} (hlo : lo ≤ R) {off : Fin 2 → ℕ} (ho : off = ![R, 0])
    (inb : ∀ a, off a + S16x128.size a ≤ S2560x128.size a) (w : (Rect.unit (s := S2560x128) off S16x128.size inb).shape.Idx → Elt F .bf16) (L : List (View.Piece (Elt F) S2560x128 .bf16))
    (hw : ∀ (y : S2560x128.Idx) (r : Fin 16), (y 0).val = R + r.val → w (ix2 r (y 1)) = T y)
    (ih : ∀ y : S2560x128.Idx, v.read (Elt F) (v.writes (Elt F) f L) y = if lo ≤ (y 0).val ∧ (y 0).val < R then T y else B y) (y : S2560x128.Idx) :
    v.read (Elt F) (v.writes (Elt F) f (⟨Rect.unit (s := S2560x128) off S16x128.size inb, w⟩ :: L)) y = if lo ≤ (y 0).val ∧ (y 0).val < R + 16 then T y else B y := by
  rw [read_piece v f ho inb w L y (T y) (hw y), ih y]
  by_cases h : R ≤ (y 0).val ∧ (y 0).val < R + 16
  · rw [if_pos h, if_pos (by omega)]
  · rw [if_neg h]
    by_cases h' : lo ≤ (y 0).val ∧ (y 0).val < R
    · rw [if_pos h', if_pos (by omega)]
    · rw [if_neg h', if_neg (by omega)]

/-- The dequantised groups of a trip. -/
theorem read_DL (v : View sig .tc .vmem S2560x128 .bf16) (f : v.ty.Contents (Elt F)) (y : S2560x128.Idx) :
    v.read (Elt F) (v.writes (Elt F) f (DL x1 x2 x3 k)) y
      = if 256 * k.val ≤ (y 0).val ∧ (y 0).val < 256 * k.val + 256 then dqY x1 x2 x3 y else v.read (Elt F) f y := by
  unfold DL
  revert y
  refine chain v f (dqY x1 x2 x3) _ (lo := 256 * k.val) (R := 256 * k.val + 240) (by omega) (k0_off3_eq k 15) _ _ _ (fun y r hr => dq_apply x1 x2 x3 k 15 _ r (y 1) (y 0).val (y 0).isLt hr) ?_
  refine chain v f (dqY x1 x2 x3) _ (lo := 256 * k.val) (R := 256 * k.val + 224) (by omega) (k0_off3_eq k 14) _ _ _ (fun y r hr => dq_apply x1 x2 x3 k 14 _ r (y 1) (y 0).val (y 0).isLt hr) ?_
  refine chain v f (dqY x1 x2 x3) _ (lo := 256 * k.val) (R := 256 * k.val + 208) (by omega) (k0_off3_eq k 13) _ _ _ (fun y r hr => dq_apply x1 x2 x3 k 13 _ r (y 1) (y 0).val (y 0).isLt hr) ?_
  refine chain v f (dqY x1 x2 x3) _ (lo := 256 * k.val) (R := 256 * k.val + 192) (by omega) (k0_off3_eq k 12) _ _ _ (fun y r hr => dq_apply x1 x2 x3 k 12 _ r (y 1) (y 0).val (y 0).isLt hr) ?_
  refine chain v f (dqY x1 x2 x3) _ (lo := 256 * k.val) (R := 256 * k.val + 176) (by omega) (k0_off3_eq k 11) _ _ _ (fun y r hr => dq_apply x1 x2 x3 k 11 _ r (y 1) (y 0).val (y 0).isLt hr) ?_
  refine chain v f (dqY x1 x2 x3) _ (lo := 256 * k.val) (R := 256 * k.val + 160) (by omega) (k0_off3_eq k 10) _ _ _ (fun y r hr => dq_apply x1 x2 x3 k 10 _ r (y 1) (y 0).val (y 0).isLt hr) ?_
  refine chain v f (dqY x1 x2 x3) _ (lo := 256 * k.val) (R := 256 * k.val + 144) (by omega) (k0_off3_eq k 9) _ _ _ (fun y r hr => dq_apply x1 x2 x3 k 9 _ r (y 1) (y 0).val (y 0).isLt hr) ?_
  refine chain v f (dqY x1 x2 x3) _ (lo := 256 * k.val) (R := 256 * k.val + 128) (by omega) (k0_off3_eq k 8) _ _ _ (fun y r hr => dq_apply x1 x2 x3 k 8 _ r (y 1) (y 0).val (y 0).isLt hr) ?_
  refine chain v f (dqY x1 x2 x3) _ (lo := 256 * k.val) (R := 256 * k.val + 112) (by omega) (k0_off3_eq k 7) _ _ _ (fun y r hr => dq_apply x1 x2 x3 k 7 _ r (y 1) (y 0).val (y 0).isLt hr) ?_
  refine chain v f (dqY x1 x2 x3) _ (lo := 256 * k.val) (R := 256 * k.val + 96) (by omega) (k0_off3_eq k 6) _ _ _ (fun y r hr => dq_apply x1 x2 x3 k 6 _ r (y 1) (y 0).val (y 0).isLt hr) ?_
  refine chain v f (dqY x1 x2 x3) _ (lo := 256 * k.val) (R := 256 * k.val + 80) (by omega) (k0_off3_eq k 5) _ _ _ (fun y r hr => dq_apply x1 x2 x3 k 5 _ r (y 1) (y 0).val (y 0).isLt hr) ?_
  refine chain v f (dqY x1 x2 x3) _ (lo := 256 * k.val) (R := 256 * k.val + 64) (by omega) (k0_off3_eq k 4) _ _ _ (fun y r hr => dq_apply x1 x2 x3 k 4 _ r (y 1) (y 0).val (y 0).isLt hr) ?_
  refine chain v f (dqY x1 x2 x3) _ (lo := 256 * k.val) (R := 256 * k.val + 48) (by omega) (k0_off3_eq k 3) _ _ _ (fun y r hr => dq_apply x1 x2 x3 k 3 _ r (y 1) (y 0).val (y 0).isLt hr) ?_
  refine chain v f (dqY x1 x2 x3) _ (lo := 256 * k.val) (R := 256 * k.val + 32) (by omega) (k0_off3_eq k 2) _ _ _ (fun y r hr => dq_apply x1 x2 x3 k 2 _ r (y 1) (y 0).val (y 0).isLt hr) ?_
  refine chain v f (dqY x1 x2 x3) _ (lo := 256 * k.val) (R := 256 * k.val + 16) (by omega) (k0_off3_eq k 1) _ _ _ (fun y r hr => dq_apply x1 x2 x3 k 1 _ r (y 1) (y 0).val (y 0).isLt hr) ?_
  refine chain v f (dqY x1 x2 x3) _ (lo := 256 * k.val) (R := 256 * k.val + 0) (by omega) (k0_off3_eq k 0) _ _ _ (fun y r hr => dq_apply x1 x2 x3 k 0 _ r (y 1) (y 0).val (y 0).isLt hr) ?_
  intro y
  rw [if_neg (by omega)]
  rfl

/-- Sixteen rows loaded back and gone over with the slots, where they were dequantised before. -/
theorem half_apply (v : View sig .tc .vmem S2560x128 .bf16) (L : List (View.Piece (Elt F) S2560x128 .bf16)) (h : Fin 2) (g : Fin 8) (y : S2560x128.Idx) (r : Fin 16)
    (hr : (y 0).val = 256 * k.val + 128 * h.val + 16 * g.val + r.val) (hL : v.read (Elt F) (v.writes (Elt F) v.junk L) y = dqY x1 x2 x3 y) :
    pt (rowsOf (iota .tc S16x128 16 [0] iota_S16x128_d0_w16) k (BitVec.ofNat 32 (128 * h.val)) (BitVec.ofNat 32 (16 * g.val))) x4 40 (Nat.le_refl 40)
        (shapeCast S16x128 (v.readCov L (Rect.unit (s := S2560x128) (k0_off4 k (BitVec.ofNat 32 (128 * h.val)) (BitVec.ofNat 32 (16 * g.val))) S16x128.size (k0_off4_inb k h g)).toLoadRect) shapeCasts_S16x128_S16x128) (ix2 r (y 1))
      = outAt x1 x2 x3 x4 y := by
  refine (pt_apply x4 _ r (y 1) (y 0).val (by omega) ((rowsOf_apply k h g r (y 1)).trans (congrArg _ hr.symm)) 40 (Nat.le_refl 40) _).trans ?_
  unfold outAt
  refine congrArg _ ((congrFun (shapeCast_self _ _) _).trans (Eq.trans ?_ hL))
  unfold View.readCov
  rw [View.readAt_apply]
  refine congrArg _ (funext fun a => Fin.ext ?_)
  refine (Rect.idx_unit_val _ _ _ _ a).trans ?_
  refine Eq.trans (congrArg (fun n : ℕ => n + _) (congrFun (k0_off4_eq k h g) a)) ?_
  fin_cases a
  · exact hr.symm
  · show 0 + (y 1).val = (y 1).val; omega

/-- … with the first half gone over by the slots. -/
theorem read_HL0 (v : View sig .tc .vmem S2560x128 .bf16) (f : v.ty.Contents (Elt F)) (y : S2560x128.Idx) :
    v.read (Elt F) (v.writes (Elt F) f (HL0 v (iota .tc S16x128 16 [0] iota_S16x128_d0_w16) x1 x2 x3 x4 k)) y
      = if 256 * k.val ≤ (y 0).val ∧ (y 0).val < 256 * k.val + 128 then outAt x1 x2 x3 x4 y else v.read (Elt F) (v.writes (Elt F) f (DL x1 x2 x3 k)) y := by
  unfold HL0
  revert y
  refine chain v f (outAt x1 x2 x3 x4) _ (lo := 256 * k.val) (R := 256 * k.val + 112) (by omega) (k0_off4_eq k 0 7) _ _ _ (fun y r hr => half_apply x1 x2 x3 x4 k v _ 0 7 y r hr ((read_DL x1 x2 x3 k v _ y).trans (if_pos (by omega)))) ?_
  refine chain v f (outAt x1 x2 x3 x4) _ (lo := 256 * k.val) (R := 256 * k.val + 96) (by omega) (k0_off4_eq k 0 6) _ _ _ (fun y r hr => half_apply x1 x2 x3 x4 k v _ 0 6 y r hr ((read_DL x1 x2 x3 k v _ y).trans (if_pos (by omega)))) ?_
  refine chain v f (outAt x1 x2 x3 x4) _ (lo := 256 * k.val) (R := 256 * k.val + 80) (by omega) (k0_off4_eq k 0 5) _ _ _ (fun y r hr => half_apply x1 x2 x3 x4 k v _ 0 5 y r hr ((read_DL x1 x2 x3 k v _ y).trans (if_pos (by omega)))) ?_
  refine chain v f (outAt x1 x2 x3 x4) _ (lo := 256 * k.val) (R := 256 * k.val + 64) (by omega) (k0_off4_eq k 0 4) _ _ _ (fun y r hr => half_apply x1 x2 x3 x4 k v _ 0 4 y r hr ((read_DL x1 x2 x3 k v _ y).trans (if_pos (by omega)))) ?_
  refine chain v f (outAt x1 x2 x3 x4) _ (lo := 256 * k.val) (R := 256 * k.val + 48) (by omega) (k0_off4_eq k 0 3) _ _ _ (fun y r hr => half_apply x1 x2 x3 x4 k v _ 0 3 y r hr ((read_DL x1 x2 x3 k v _ y).trans (if_pos (by omega)))) ?_
  refine chain v f (outAt x1 x2 x3 x4) _ (lo := 256 * k.val) (R := 256 * k.val + 32) (by omega) (k0_off4_eq k 0 2) _ _ _ (fun y r hr => half_apply x1 x2 x3 x4 k v _ 0 2 y r hr ((read_DL x1 x2 x3 k v _ y).trans (if_pos (by omega)))) ?_
  refine chain v f (outAt x1 x2 x3 x4) _ (lo := 256 * k.val) (R := 256 * k.val + 16) (by omega) (k0_off4_eq k 0 1) _ _ _ (fun y r hr => half_apply x1 x2 x3 x4 k v _ 0 1 y r hr ((read_DL x1 x2 x3 k v _ y).trans (if_pos (by omega)))) ?_
  refine chain v f (outAt x1 x2 x3 x4) _ (lo := 256 * k.val) (R := 256 * k.val + 0) (by omega) (k0_off4_eq k 0 0) _ _ _ (fun y r hr => half_apply x1 x2 x3 x4 k v _ 0 0 y r hr ((read_DL x1 x2 x3 k v _ y).trans (if_pos (by omega)))) ?_
  intro y
  rw [if_neg (by omega)]
  rfl

/-- … and with the second half gone over. -/
theorem read_HL1 (v : View sig .tc .vmem S2560x128 .bf16) (f : v.ty.Contents (Elt F)) (y : S2560x128.Idx) :
    v.read (Elt F) (v.writes (Elt F) f (HL1 v (iota .tc S16x128 16 [0] iota_S16x128_d0_w16) x1 x2 x3 x4 k)) y
      = if 256 * k.val + 128 ≤ (y 0).val ∧ (y 0).val < 256 * k.val + 256 then outAt x1 x2 x3 x4 y
        else v.read (Elt F) (v.writes (Elt F) f (HL0 v (iota .tc S16x128 16 [0] iota_S16x128_d0_w16) x1 x2 x3 x4 k)) y := by
  unfold HL1
  revert y
  refine chain v f (outAt x1 x2 x3 x4) _ (lo := 256 * k.val + 128) (R := 256 * k.val + 240) (by omega) (k0_off4_eq k 1 7) _ _ _ (fun y r hr => half_apply x1 x2 x3 x4 k v _ 1 7 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 224) (by omega) (k0_off4_eq k 1 6) _ _ _ (fun y r hr => half_apply x1 x2 x3 x4 k v _ 1 6 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 208) (by omega) (k0_off4_eq k 1 5) _ _ _ (fun y r hr => half_apply x1 x2 x3 x4 k v _ 1 5 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 192) (by omega) (k0_off4_eq k 1 4) _ _ _ (fun y r hr => half_apply x1 x2 x3 x4 k v _ 1 4 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 176) (by omega) (k0_off4_eq k 1 3) _ _ _ (fun y r hr => half_apply x1 x2 x3 x4 k v _ 1 3 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 160) (by omega) (k0_off4_eq k 1 2) _ _ _ (fun y r hr => half_apply x1 x2 x3 x4 k v _ 1 2 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 144) (by omega) (k0_off4_eq k 1 1) _ _ _ (fun y r hr => half_apply x1 x2 x3 x4 k v _ 1 1 y r hr ((read_HL0 x1 x2 x3 x4 k v _ y).trans ((if_neg (by omega)).trans ((read_DL x1 x2 x3 k v _ y).trans (if_pos (by omega)))))) ?_
  refine chain v f (outAt x1 x2 x3 x4) _ (lo := 256 * k.val + 128) (R := 256 * k.val + 128) (by omega) (k0_off4_eq k 1 0) _ _ _ (fun y r hr => half_apply x1 x2 x3 x4 k v _ 1 0 y r hr ((read_HL0 x1 x2 x3 x4 k v _ y).trans ((if_neg (by omega)).trans ((read_DL x1 x2 x3 k v _ y).trans (if_pos (by omega)))))) ?_
  intro y
  rw [if_neg (by omega)]
  rfl

/-- WHAT A TRIP LEAVES. -/
theorem read_trip (v : View sig .tc .vmem S2560x128 .bf16) (f : v.ty.Contents (Elt F)) (y : S2560x128.Idx) :
    v.read (Elt F) (v.writes (Elt F) f (HL1 v (iota .tc S16x128 16 [0] iota_S16x128_d0_w16) x1 x2 x3 x4 k)) y
      = if 256 * k.val ≤ (y 0).val ∧ (y 0).val < 256 * k.val + 256 then outAt x1 x2 x3 x4 y else v.read (Elt F) f y := by
  rw [read_HL1, read_HL0, read_DL]
  split_ifs <;> first | rfl | (exfalso; omega)

end Cert.PrepIdeal.Trip

end
-- ==== Proof.PrepIdealTile.lean ====
/-
  The kernel's body at one grid point, and the run of the whole grid, of `PrepIdeal`.

  The body's loop keeps: the rows of the trips made so far hold the entries of `PrepSpec.outAt`.  After its ten trips that
  is the whole block.
-/
module

public import proofs.«01_k».proof.Proof.PrepIdealRows
public import proofs.«01_k».proof.Proof.Gen.PrepIdeal.Frame
public import proofs.«01_k».proof.Proof.Gen.PrepIdeal.Skeleton
public import Idealize.ShloMosaic.Lib.Pipeline.Value

@[expose] public section

set_option maxRecDepth 16384

noncomputable section

namespace Cert.PrepIdeal.Tile

open Cert.PrepIdeal Cert.PrepIdeal.Gen Cert.PrepIdeal.Trip Cert.PrepSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Before trip `k` the rows of the trips before it hold the kernel's entries. -/
def Done (x1 : Vec F S128x1280 .i8) (x2 x3 : Vec F S160x128 .i32) (x4 : Vec F S1x80x128 .i32) (d : Vec F S2560x128 .bf16) (k : ℕ) : Prop :=
  ∀ y : S2560x128.Idx, (y 0).val < 256 * k → d y = outAt x1 x2 x3 x4 y

/-- The loop's invariant. -/
abbrev inv (c : Dev nD) (arg1 : Memref sig .tc .vmem S128x1280 .i8) (harg1 : arg1.IsWhole) (arg2 : Memref sig .tc .vmem S160x128 .i32) (harg2 : arg2.IsWhole) (arg3 : Memref sig .tc .vmem S160x128 .i32) (harg3 : arg3.IsWhole) (arg4 : Memref sig .tc .vmem S1x80x128 .i32) (harg4 : arg4.IsWhole) (arg5 : Memref sig .tc .vmem S2560x128 .bf16) (harg5 : arg5.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : ℕ) (_u : PUnit) : sProp 𝕄 :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (∃ f, (arg5.view.loc (c : Thread nD τ) ↦[arg5.view.set]{fullShare} f) ∗ ⌜Done (arg1.view.read (Elt F) X_arg1) (arg2.view.read (Elt F) X_arg2) (arg3.view.read (Elt F) X_arg3) (arg4.view.read (Elt F) X_arg4) (arg5.view.read (Elt F) f) k⌝))

set_option warn.classDefReducibility false in
/-- The loop by its invariant. -/
@[sl_loop] def loopInv (𝒱 : Variants) (c : Dev nD) (bd : Option 𝒱.V) (E : Set ℕ) (i : grid0.Coords) (arg1 : Memref sig .tc .vmem S128x1280 .i8) (harg1 : arg1.IsWhole) (arg2 : Memref sig .tc .vmem S160x128 .i32) (harg2 : arg2.IsWhole) (arg3 : Memref sig .tc .vmem S160x128 .i32) (harg3 : arg3.IsWhole) (arg4 : Memref sig .tc .vmem S1x80x128 .i32) (harg4 : arg4.IsWhole) (arg5 : Memref sig .tc .vmem S2560x128 .bf16) (harg5 : arg5.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) :
    Idealize.ShloMosaic.LoopInv (M := 𝕄) Idealize.ShloMosaic.frame (wpE defs₀ 𝒱 (c : Thread nD τ) bd) E
      k0_t1_loop.lb k0_t1_loop.ub k0_t1_loop.st k0_t1_ok () (k0_t1_body (F := F) i arg1 harg1 arg2 harg2 arg3 harg3 arg4 harg4 arg5 harg5 (iota .tc S16x128 16 [0] iota_S16x128_d0_w16)) where
  inv := inv (F := F) c arg1 harg1 arg2 harg2 arg3 harg3 arg4 harg4 arg5 harg5 X_arg1 X_arg2 X_arg3 X_arg4
  step k acc := by
    iintro ⟨HR_arg1, HR_arg2, HR_arg3, HR_arg4, ⟨%f_arg5, HW_arg5, %h_arg5⟩⟩
    iapply (wp_wand_r Idealize.ShloMosaic.frame (wpE (defs₀ (F := F)) 𝒱 (c : Thread nD τ) bd) E)
    isplitl [HR_arg1 HR_arg2 HR_arg3 HR_arg4 HW_arg5]
    · iapply (trip_of (F := F) 𝒱 c bd i arg1 harg1 arg2 harg2 arg3 harg3 arg4 harg4 arg5 harg5 (iota .tc S16x128 16 [0] iota_S16x128_d0_w16) X_arg1 X_arg2 X_arg3 X_arg4 k E f_arg5 _ (fun L h => congrArg (arg5.view.writes (Elt F) f_arg5) h))
      isplitl [HR_arg1]; · iexact HR_arg1
      isplitl [HR_arg2]; · iexact HR_arg2
      isplitl [HR_arg3]; · iexact HR_arg3
      isplitl [HR_arg4]; · iexact HR_arg4
      iexact HW_arg5
    · iintro %_ ⟨HR_arg1, HR_arg2, HR_arg3, HR_arg4, HW_arg5⟩
      isplitl [HR_arg1]; · iexact HR_arg1
      isplitl [HR_arg2]; · iexact HR_arg2
      isplitl [HR_arg3]; · iexact HR_arg3
      isplitl [HR_arg4]; · iexact HR_arg4
      iexists _; isplitl [HW_arg5]; · iexact HW_arg5
      ipureintro
      intro y hy
      rw [read_trip]
      by_cases hlo : 256 * k.val ≤ (y 0).val ∧ (y 0).val < 256 * k.val + 256
      · rw [if_pos hlo]
      · rw [if_neg hlo]; exact h_arg5 y (by omega)

/-- The loop makes ten trips. -/
theorem trips_eq : k0_t1_loop.trips = 10 := by decide +kernel

set_option maxHeartbeats 1000000 in
/-- The body on whole staging buffers: from the four operand blocks and anything in the result's buffer it leaves the first
    four as they were and the result's at `outAt`. -/
theorem sound_kernel (c : Dev nD) (E : Set ℕ) (i : grid0.Coords) (arg1 : Memref sig .tc .vmem S128x1280 .i8) (harg1 : arg1.IsWhole) (arg2 : Memref sig .tc .vmem S160x128 .i32) (harg2 : arg2.IsWhole) (arg3 : Memref sig .tc .vmem S160x128 .i32) (harg3 : arg3.IsWhole) (arg4 : Memref sig .tc .vmem S1x80x128 .i32) (harg4 : arg4.IsWhole) (arg5 : Memref sig .tc .vmem S2560x128 .bf16) (harg5 : arg5.IsWhole)
    (x1 : Vec F S128x1280 .i8) (x2 x3 : Vec F S160x128 .i32) (x4 : Vec F S1x80x128 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (outAt x1 x2 x3 x4)) -∗ K ⟨⟩))
      ⊢ wp frame (wpE (defs₀ (F := F)) Variants.none c none) E (cc0_prep i arg1 harg1 arg2 harg2 arg3 harg3 arg4 harg4 arg5 harg5) K := by
  simp only [cc0_prep_eq_skeleton]; unfold cc0_prep_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  have h0 : Done (arg1.view.read (Elt F) f1) (arg2.view.read (Elt F) f2) (arg3.view.read (Elt F) f3) (arg4.view.read (Elt F) f4) (arg5.view.read (Elt F) f5) 0 :=
    fun y hy => absurd hy (Nat.not_lt_zero _)
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine funext fun y => ?_
  have hN : Scf.trips k0_t1_loop.lb k0_t1_loop.ub k0_t1_loop.st = 10 := trips_eq
  rw [hN] at hL5
  exact hL5 y (y 0).isLt

variable (m : (ℓ : Loc nD τ sig) → Buf (Elt F) ℓ) (ρ : Dev nD → PrngReg)

/-- The data of the grid's run: the arrays as the call finds them; after the body the operands' blocks and the block made of
    them; nothing owed and full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt (F := F) (iblk m c 0 t) (iblk m c 1 t) (iblk m c 2 t) (iblk m c 3 t)
  Φ _ := Pipeline.ΦA spec0 c
  q _ := fullShare
  owed _ := 0

/-- The data's initial arrays are the buffers the region is entered with. -/
theorem A_eq (c : Dev nD) (w : Fin cfg0.W) : (dats m 0 c).A w = V m c (Pipeline.arrRef spec0 w) := by
  dsimp only [dats]

/-- What the body leaves in buffer 0 of a point. -/
theorem after0 (c : Dev nD) (t : Fin cfg0.N) : (dats m 0 c).after 0 t = iblk m c 0 t := by dsimp only [dats]
/-- What the body leaves in buffer 1 of a point. -/
theorem after1 (c : Dev nD) (t : Fin cfg0.N) : (dats m 0 c).after 1 t = iblk m c 1 t := by dsimp only [dats]
/-- What the body leaves in buffer 2 of a point. -/
theorem after2 (c : Dev nD) (t : Fin cfg0.N) : (dats m 0 c).after 2 t = iblk m c 2 t := by dsimp only [dats]
/-- What the body leaves in buffer 3 of a point. -/
theorem after3 (c : Dev nD) (t : Fin cfg0.N) : (dats m 0 c).after 3 t = iblk m c 3 t := by dsimp only [dats]
/-- What the body leaves in buffer 4 of a point. -/
theorem after4 (c : Dev nD) (t : Fin cfg0.N) : (dats m 0 c).after 4 t = outAt (F := F) (iblk m c 0 t) (iblk m c 1 t) (iblk m c 2 t) (iblk m c 3 t) := by dsimp only [dats]

/-- What the body finds in buffer 0 of a point. -/
theorem before0 (c : Dev nD) (t : Fin cfg0.N) (d) : (dats m 0 c).before 0 t d = iblk m c 0 t :=
  before0_0_of m (dats m 0 c) (A_eq m c 0) (after0 m c) t d
/-- What the body finds in buffer 1 of a point. -/
theorem before1 (c : Dev nD) (t : Fin cfg0.N) (d) : (dats m 0 c).before 1 t d = iblk m c 1 t :=
  before0_1_of m (dats m 0 c) (A_eq m c 1) (after1 m c) t d
/-- What the body finds in buffer 2 of a point. -/
theorem before2 (c : Dev nD) (t : Fin cfg0.N) (d) : (dats m 0 c).before 2 t d = iblk m c 2 t :=
  before0_2_of m (dats m 0 c) (A_eq m c 2) (after2 m c) t d
/-- What the body finds in buffer 3 of a point. -/
theorem before3 (c : Dev nD) (t : Fin cfg0.N) (d) : (dats m 0 c).before 3 t d = iblk m c 3 t :=
  before0_3_of m (dats m 0 c) (A_eq m c 3) (after3 m c) t d

/-- The body table's row at point `t` is the body on that point's staging buffers. -/
theorem defs₀_row (t : Fin cfg0.N) :
    defs₀ (F := F) .tc cfg0.body (cfg0.bodyArgs t (cfg0.slots t)) = bodyAt0 t := by
  unfold defs₀; rw [Defs.onTc_tc]

/-- The body at any point. -/
theorem body_obligation (c : Dev nD) : BodyObligation (dats m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0 m c t d0, before1 m c t d1, before2 m c t d2, before3 m c t d3]
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  rw [after0, after1, after2, after3, after4]
  isplitl [HΦ]; · iexact HΦ
  isplitl [Ho]; · iexact Ho
  isplitl [H0]; · iexact H0
  isplitl [H1]; · iexact H1
  isplitl [H2]; · iexact H2
  isplitl [H3]; · iexact H3
  iexact H4

set_option backward.isDefEq.respectTransparency.types false in
set_option maxHeartbeats 800000 in
/-- The run: every array ends at what the write-backs of the data make of it, every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends, the arguments stay, every counter ends at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m 0 c).arrAt_in 3 rfl _).trans ((A_eq m c 3).trans (V_main_arg3 m c)))⟩, h.2⟩) (run m ρ)

end Cert.PrepIdeal.Tile

end
-- ==== Proof.PrepMath.lean ====
/-
  The preparation step's mathematics at the ideal values, free of both programs: what its words denote, and `G`,
  the array it makes.  Entry (R, n) of `G` is the last outlier of column n that names row R, and
  (code - zero) * scale if none does.
-/
module

public import proofs.«01_k».proof.Proof.PrepSpec
public import Idealize.ShloMosaic.Lib.IdealHost
public import Idealize.ShloMosaic.Lib.ScatterToDense.RefScatter

@[expose] public section

set_option maxRecDepth 16384

noncomputable section

namespace Cert.PrepMath

open Idealize.ShloMosaic Idealize.ShloMosaic.ValueIdx Idealize.ShloMosaic.ScatterToDense Idealize.ShloMosaic.Routing Cert.PrepSpec

/-! ## The words -/

/-- The code nibble of a byte: the low one at parity 0, else the high one. -/
def code (b : BitVec 8) (p : ℕ) : ℕ := if p = 0 then b.toNat % 16 else b.toNat / 16

/-- A nibble is below 16. -/
theorem code_lt (b : BitVec 8) (p : ℕ) : code b p < 16 := by
  unfold code
  split <;> have := b.isLt <;> omega

/-- A half of the code word is the nibble under the exponent of 128. -/
theorem half_codeword (b : BitVec 8) (p : ℕ) (hp : p < 2) : half p (codeword b) = BitVec.ofNat 16 (17152 + code b p) := by
  have h : ∀ k : Fin 256, half 0 (codeword (BitVec.ofFin k)) = BitVec.ofNat 16 (17152 + code (BitVec.ofFin k) 0)
      ∧ half 1 (codeword (BitVec.ofFin k)) = BitVec.ofNat 16 (17152 + code (BitVec.ofFin k) 1) := by decide +kernel
  interval_cases p
  · exact (h b.toFin).1
  · exact (h b.toFin).2

/-- Either half of the zero word is the zero under the exponent of 128. -/
theorem half_zero (z : BitVec 8) (p : ℕ) (hp : p < 2) :
    half p (IntOp.ori (IntOp.shli .host (IntOp.addi (z.setWidth 32) 17152#32) 16#32) (IntOp.addi (z.setWidth 32) 17152#32))
      = BitVec.ofNat 16 (17152 + z.toNat) := by
  have h : ∀ k : Fin 256, ∀ q : Fin 2, half q.val (IntOp.ori (IntOp.shli .host (IntOp.addi ((BitVec.ofFin k : BitVec 8).setWidth 32) 17152#32) 16#32)
      (IntOp.addi ((BitVec.ofFin k : BitVec 8).setWidth 32) 17152#32)) = BitVec.ofNat 16 (17152 + k.val) := by decide +kernel
  exact h z.toFin ⟨p, hp⟩

/-- Either half of the scale word is the scale's pattern. -/
theorem half_scale (s : BitVec 16) (p : ℕ) (hp : p < 2) :
    half p (IntOp.ori (IntOp.shli .host (s.setWidth 32) 16#32) (s.setWidth 32)) = s := by
  have e : IntOp.shli .host (s.setWidth 32) 16#32 = s.setWidth 32 <<< 16 := rfl
  rw [e]
  unfold half IntOp.ori
  interval_cases p <;> ext i hi <;> simp [hi, show i < 32 by omega, show 16 + i < 32 by omega]

/-- A pattern of up to 128 under the exponent of 128 denotes 128 plus it. -/
theorem ofBits_biased (k : ℕ) (hk : k ≤ 128) : Ideal.ofBits .bf16 (BitVec.ofNat 16 (17152 + k)) = (((128 : ℝ) + k : ℝ) : EReal) := by
  interval_cases k <;> simp [Ideal.ofBits, Ideal.ieee, -EReal.coe_mul, -EReal.coe_add] <;> norm_num

/-- The biases cancel. -/
theorem biased_sub (a b : ℕ) : ((((128 : ℝ) + a : ℝ) : EReal) - (((128 : ℝ) + b : ℝ) : EReal)) = (((a : ℝ) : EReal) - ((b : ℝ) : EReal)) := by
  rw [← EReal.coe_sub, ← EReal.coe_sub]
  congr 1
  ring

/-- The low 16 bits of the mask are set. -/
theorem ones16 : ∀ k : Fin 16, (65535#16)[k.val]'k.isLt = true := by decide

/-- A slot word whose halves agree has its low half at either parity. -/
theorem half_slot (e : BitVec 32) (h : IntOp.shrui .host e 16#32 = IntOp.andi e 65535#32) (p : ℕ) (hp : p < 2) :
    half p e = (IntOp.andi e 65535#32).setWidth 16 := by
  have e1 : (IntOp.andi e 65535#32).setWidth 16 = half 0 e := by
    unfold half IntOp.andi
    ext i hi
    have : (65535#32).getLsbD i = true := by interval_cases i <;> rfl
    have t2 : (65535#16)[i] = true := ones16 ⟨i, hi⟩
    simp_all
  interval_cases p
  · exact e1.symm
  · rw [← h]
    have e2 : IntOp.shrui .host e 16#32 = e >>> 16 := rfl
    rw [e2]
    unfold half
    ext i hi
    simp [hi]

/-- A row below 2560 is named by the low half of a word exactly when the word's low half is the row. -/
theorem row_iff (R : ℕ) (hR : R < 2560) (e : BitVec 32) :
    BitVec.ofNat 16 R = (IntOp.andi e 65535#32).setWidth 16 ↔ R = (IntOp.andi e 65535#32).toNat := by
  have hlt : (IntOp.andi e 65535#32).toNat < 65536 := by
    show (e &&& 65535#32).toNat < 65536
    rw [BitVec.toNat_and]
    exact Nat.lt_of_le_of_lt Nat.and_le_right (by decide)
  constructor
  · intro h
    have := congrArg BitVec.toNat h
    rw [BitVec.toNat_ofNat, BitVec.toNat_setWidth, Nat.mod_eq_of_lt (by omega), Nat.mod_eq_of_lt (by omega)] at this
    exact this
  · intro h
    apply BitVec.eq_of_toNat_eq
    rw [BitVec.toNat_ofNat, BitVec.toNat_setWidth, ← h]

/-! ## The array -/

/-- Entry (R, n) of the dequantised weights: (code - zero) * scale. -/
def fill (a0 : (shape2 9728 1280).Idx → BitVec 8) (a1 : (shape2 9728 160).Idx → BitVec 16) (a2 : (shape2 9728 160).Idx → BitVec 8) (R : Fin 2560) (n : Fin 9728) : EReal :=
  (((code (a0 (ix2 n ⟨R.val / 2, by omega⟩)) (R.val % 2) : ℝ) : EReal) - (((a2 (ix2 n ⟨R.val / 16, by omega⟩)).toNat : ℝ) : EReal))
    * Ideal.ofBits .bf16 (a1 (ix2 n ⟨R.val / 16, by omega⟩))

/-- The low half of word `j` of column `n`'s slots: 40 row numbers, then 40 patterns. -/
def word (a3 : (shape3 76 80 128).Idx → BitVec 32) (n : Fin 9728) (j : ℕ) : BitVec 32 :=
  if h : j < 80 then IntOp.andi (a3 (ix3 (⟨n.val / 128, by omega⟩ : Fin 76) (⟨j, h⟩ : Fin 80) (⟨n.val % 128, Nat.mod_lt _ (by decide)⟩ : Fin 128))) 65535#32 else 0#32

/-- The prepared weights: the outliers of each column, the last one winning, over the dequantised codes. -/
def G (a0 : (shape2 9728 1280).Idx → BitVec 8) (a1 : (shape2 9728 160).Idx → BitVec 16) (a2 : (shape2 9728 160).Idx → BitVec 8)
    (a3 : (shape3 76 80 128).Idx → BitVec 32) : (shape2 2560 9728).Idx → EReal := fun y =>
  GS (word a3 (y 1)) (fun j => Ideal.ofBits .bf16 ((word a3 (y 1) (40 + j)).setWidth 16)) (fill a0 a1 a2 (y 0) (y 1)) (y 0).val 40

/-- What the kernel's block makes of words that hold biased codes, biased zeros and scales is the dequantised entry. -/
theorem dqAt_eq (x1 : (⟨2, ![128, 1280]⟩ : Shape).Idx → BitVec 8) (x2 x3 : (⟨2, ![160, 128]⟩ : Shape).Idx → BitVec 32)
    (a0 : (shape2 9728 1280).Idx → BitVec 8) (a1 : (shape2 9728 160).Idx → BitVec 16) (a2 : (shape2 9728 160).Idx → BitVec 8) (R : Fin 2560) (n : Fin 9728) (c : Fin 128)
    (h1 : ∀ b : Fin 1280, x1 (ix2 c b) = a0 (ix2 n b))
    (h2 : ∀ g : Fin 160, x2 (ix2 g c) = IntOp.ori (IntOp.shli .host ((a1 (ix2 n g)).setWidth 32) 16#32) ((a1 (ix2 n g)).setWidth 32))
    (h3 : ∀ g : Fin 160, x3 (ix2 g c) = IntOp.ori (IntOp.shli .host (IntOp.addi ((a2 (ix2 n g)).setWidth 32) 17152#32) 16#32) (IntOp.addi ((a2 (ix2 n g)).setWidth 32) 17152#32))
    (hz : ∀ g : Fin 160, (a2 (ix2 n g)).toNat ≤ 128) :
    dqAt (F := Ideal) x1 x2 x3 R.val R.isLt c = fill a0 a1 a2 R n := by
  have hp : R.val % 2 < 2 := Nat.mod_lt _ (by decide)
  unfold dqAt fill
  rw [h1, h2, h3, half_codeword _ _ hp, half_zero _ _ hp, half_scale _ _ hp]
  show (Ideal.ofBits .bf16 _ - Ideal.ofBits .bf16 _) * Ideal.ofBits .bf16 _ = _
  rw [ofBits_biased _ (by have := code_lt (a0 (ix2 n ⟨R.val / 2, by omega⟩)) (R.val % 2); omega), ofBits_biased _ (hz _), biased_sub]

/-- One more slot: it wins if it names the row. -/
theorem ptAt_succ (x4 : (⟨3, ![1, 80, 128]⟩ : Shape).Idx → BitVec 32) (R : ℕ) (c : Fin 128) (n : ℕ) (h : n + 1 ≤ 40) (w : EReal) :
    ptAt (F := Ideal) x4 R c (n + 1) h w = if BitVec.ofNat 16 R = half (R % 2) (x4 (ix3 0 ⟨n, by omega⟩ c))
      then Ideal.ofBits .bf16 (half (R % 2) (x4 (ix3 0 ⟨40 + n, by omega⟩ c))) else ptAt (F := Ideal) x4 R c n (by omega) w := rfl

/-- Going over an entry with slots whose halves agree is the scatter's last hit. -/
theorem ptAt_eq (x4 : (⟨3, ![1, 80, 128]⟩ : Shape).Idx → BitVec 32) (a3 : (shape3 76 80 128).Idx → BitVec 32) (R : Fin 2560) (n : Fin 9728) (c : Fin 128)
    (h4 : ∀ j : Fin 80, x4 (ix3 0 j c) = a3 (ix3 (⟨n.val / 128, by omega⟩ : Fin 76) j (⟨n.val % 128, Nat.mod_lt _ (by decide)⟩ : Fin 128)))
    (hs : ∀ i, IntOp.shrui .host (a3 i) 16#32 = IntOp.andi (a3 i) 65535#32) (w : EReal) :
    ∀ (k : ℕ) (hk : k ≤ 40), ptAt (F := Ideal) x4 R.val c k hk w
      = GS (word a3 n) (fun j => Ideal.ofBits .bf16 ((word a3 n (40 + j)).setWidth 16)) w R.val k
  | 0, _ => rfl
  | k + 1, hk => by
    have hp : R.val % 2 < 2 := Nat.mod_lt _ (by decide)
    have ew : ∀ j : Fin 80, half (R.val % 2) (x4 (ix3 0 j c)) = (word a3 n j.val).setWidth 16 := fun j => by
      rw [h4, half_slot _ (hs _) _ hp]
      unfold word
      rw [dif_pos j.isLt]
    rw [GS_succ, ← ptAt_eq x4 a3 R n c h4 hs w k (by omega)]
    rw [ptAt_succ, ew ⟨k, by omega⟩, ew ⟨40 + k, by omega⟩]
    refine if_congr ?_ rfl rfl
    unfold word
    rw [dif_pos (show k < 80 by omega)]
    exact row_iff R.val R.isLt _

end Cert.PrepMath
-- ==== Proof.PrepValue.lean ====
/-
  What the preparation kernel's result is at the ideal values: the array `PrepMath.G` of its arguments, for arguments
  that meet the precondition.  A block's words come from the arrays the host operations made; `PrepMath` says what
  they denote; the 76 blocks piece together.
-/
module

public import proofs.«01_k».proof.Proof.PrepIdealTile
public import proofs.«01_k».proof.Proof.PrepMath
public import proofs.«01_k».proof.Proof.Gen.Pre_slot_words
public import proofs.«01_k».proof.Defs
public import Idealize.ShloMosaic.Lib.ReduceAll
public import Idealize.ShloMosaic.Lib.Pipeline.Value

@[expose] public section

set_option maxRecDepth 16384

noncomputable section

namespace Cert.PrepIdeal.Value

open Cert.PrepIdeal Cert.PrepIdeal.Gen Cert.PrepIdeal.Tile Cert.PrepSpec Cert.PrepMath
open Idealize.ShloMosaic Idealize.ShloMosaic.TcCoe Idealize.SL.Sem Idealize.ShloMosaic.StableHlo Idealize.ShloMosaic.ValueIdx
open Idealize.ShloMosaic.Pipeline (Dat Window)

variable (m : (ℓ : Loc nD τ sig) → Buf (Elt Ideal) ℓ) (ρ : Dev nD → PrngReg)

/-! ## The precondition -/

instance : Subsingleton Cert.Pre_slot_words.S_.Idx := ⟨fun a b => funext fun x => x.elim0⟩

/-- The precondition says that no zero passes 128 and that the two halves of every slot word agree. -/
theorem pre_iff (a0 : IVec Cert.Pre_slot_words.S9728x1280 8) (a1 : IVec Cert.Pre_slot_words.S9728x160 16) (a2 : IVec Cert.Pre_slot_words.S9728x160 8) (a3 : IVec Cert.Pre_slot_words.S76x80x128 32)
    (h : Cert.Pre_slot_words.fn (F := Ideal) a0 a1 a2 a3 = fun _ => 1#1) :
    (∀ i, (a2 i).toNat ≤ 128) ∧ ∀ i, IntOp.shrui .host (a3 i) 16#32 = IntOp.andi (a3 i) 65535#32 := by
  have h0 := congrFun h (fun x => x.elim0)
  unfold Cert.Pre_slot_words.fn at h0
  have h1 : ∀ a b : BitVec 1, IntOp.andi a b = 1#1 → a = 1#1 ∧ b = 1#1 := by decide
  obtain ⟨hz, hs⟩ := h1 _ _ h0
  refine ⟨fun i => ?_, fun i => ?_⟩
  · have := Host.reduce_andi_all _ _ _ _ _ hz i
    have h2 : IntOp.cmpi .ule (a2 i) 128#8 = 1#1 := this
    have h3 : BitVec.ule (a2 i) 128#8 = true := (StableHlo.Predicate.ofBool_eq_one_iff _).1 h2
    simpa [BitVec.ule] using h3
  · have := Host.reduce_andi_all _ _ _ _ _ hs i
    exact StableHlo.Predicate.cmpi_eq_iff.1 this

/-! ## The blocks' places -/

/-- Which block of array 0 each point has. -/
theorem idx0 : ∀ t : Fin grid0.N, win0_0.index t 0 = t.val ∧ win0_0.index t 1 = 0 := by decide +kernel
/-- Which block of array 1 each point has. -/
theorem idx1 : ∀ t : Fin grid0.N, win0_1.index t 0 = 0 ∧ win0_1.index t 1 = t.val := by decide +kernel
/-- Which block of array 2 each point has. -/
theorem idx2 : ∀ t : Fin grid0.N, win0_2.index t 0 = 0 ∧ win0_2.index t 1 = t.val := by decide +kernel
/-- Which block of array 3 each point has. -/
theorem idx3 : ∀ t : Fin grid0.N, win0_3.index t 0 = t.val ∧ win0_3.index t 1 = 0 ∧ win0_3.index t 2 = 0 := by decide +kernel
/-- Which block of array 4 each point has. -/
theorem idx4 : ∀ t : Fin grid0.N, win0_4.index t 0 = 0 ∧ win0_4.index t 1 = t.val := by decide +kernel

/-- There are 76 points. -/
theorem t_lt (t : Fin cfg0.N) : t.val < 76 := lt_of_lt_of_eq t.isLt N_0

/-- Output `c` of block `t`. -/
def out (t : Fin cfg0.N) (c : Fin 128) : Fin 9728 := ⟨t.val * 128 + c.val, by have := t_lt t; omega⟩

/-- The code block: its rows are the block's outputs. -/
theorem iblk0_apply (d : Dev nD) (t : Fin cfg0.N) (c : Fin 128) (b : Fin 1280) :
    (iblk m d 0 t : S128x1280.Idx → BitVec 8) (ix2 c b) = m ((d.tc : Thread nD τ).loc main_arg0) (ix2 (out t c) b) := by
  rw [← V_main_arg0 m d]
  unfold iblk
  rw [View.read_apply]
  refine congrArg (V m d main_arg0) (funext fun a => Fin.ext ?_)
  match a with
  | ⟨0, _⟩ =>
    show win0_0.index t 0 * 128 + 1 * c.val = t.val * 128 + c.val
    rw [(idx0 t).1]; omega
  | ⟨1, _⟩ =>
    show win0_0.index t 1 * 1280 + 1 * b.val = b.val
    rw [(idx0 t).2]; omega

/-- The scale words. -/
theorem V_scale (d : Dev nD) (g : Fin 160) (n : Fin 9728) : (V m d main_v4 : S160x9728.Idx → BitVec 32) (ix2 g n)
    = IntOp.ori (IntOp.shli .host ((m ((d.tc : Thread nD τ).loc main_arg1) (ix2 n g)).setWidth 32) 16#32) ((m ((d.tc : Thread nD τ).loc main_arg1) (ix2 n g)).setWidth 32) := by
  have e : V m d main_v4 = ori (Host.shli (extui 32 (transpose S160x9728 [1, 0] (m ((d.tc : Thread nD τ).loc main_arg1)) transposes_S9728x160_S160x9728_1_0) natLt_16_32)
      (broadcastInDim S160x9728 ![] bcast_S_S160x9728 (constantI S_ 32 16#32)))
      (extui 32 (transpose S160x9728 [1, 0] (m ((d.tc : Thread nD τ).loc main_arg1)) transposes_S9728x160_S160x9728_1_0) natLt_16_32) := by
    unfold V hostOps0; after_results <;> rfl
  have ht : transpose S160x9728 [1, 0] (m ((d.tc : Thread nD τ).loc main_arg1)) transposes_S9728x160_S160x9728_1_0 (ix2 g n) = m ((d.tc : Thread nD τ).loc main_arg1) (ix2 n g) :=
    transpose_apply (s := S9728x160) _ _ _ _ (ix2 n g) (fun a => by fin_cases a <;> rfl)
  rw [e, ← ht]
  rfl

/-- The zero words. -/
theorem V_zero (d : Dev nD) (g : Fin 160) (n : Fin 9728) : (V m d main_v11 : S160x9728.Idx → BitVec 32) (ix2 g n)
    = IntOp.ori (IntOp.shli .host (IntOp.addi ((m ((d.tc : Thread nD τ).loc main_arg2) (ix2 n g)).setWidth 32) 17152#32) 16#32)
        (IntOp.addi ((m ((d.tc : Thread nD τ).loc main_arg2) (ix2 n g)).setWidth 32) 17152#32) := by
  have e : V m d main_v11 = ori (Host.shli (addi (extui 32 (transpose S160x9728 [1, 0] (m ((d.tc : Thread nD τ).loc main_arg2)) transposes_S9728x160_S160x9728_1_0) natLt_8_32)
      (broadcastInDim S160x9728 ![] bcast_S_S160x9728 (constantI S_ 32 17152#32))) (broadcastInDim S160x9728 ![] bcast_S_S160x9728 (constantI S_ 32 16#32)))
      (addi (extui 32 (transpose S160x9728 [1, 0] (m ((d.tc : Thread nD τ).loc main_arg2)) transposes_S9728x160_S160x9728_1_0) natLt_8_32)
        (broadcastInDim S160x9728 ![] bcast_S_S160x9728 (constantI S_ 32 17152#32))) := by
    unfold V hostOps0; after_results <;> rfl
  have ht : transpose S160x9728 [1, 0] (m ((d.tc : Thread nD τ).loc main_arg2)) transposes_S9728x160_S160x9728_1_0 (ix2 g n) = m ((d.tc : Thread nD τ).loc main_arg2) (ix2 n g) :=
    transpose_apply (s := S9728x160) _ _ _ _ (ix2 n g) (fun a => by fin_cases a <;> rfl)
  rw [e, ← ht]
  rfl

/-- The block of scale words: its columns are the block's outputs. -/
theorem iblk1_apply (d : Dev nD) (t : Fin cfg0.N) (g : Fin 160) (c : Fin 128) :
    (iblk m d 1 t : S160x128.Idx → BitVec 32) (ix2 g c) = V m d main_v4 (ix2 g (out t c)) := by
  unfold iblk
  rw [View.read_apply]
  refine congrArg (V m d main_v4) (funext fun a => Fin.ext ?_)
  match a with
  | ⟨0, _⟩ =>
    show win0_1.index t 0 * 160 + 1 * g.val = g.val
    rw [(idx1 t).1]; omega
  | ⟨1, _⟩ =>
    show win0_1.index t 1 * 128 + 1 * c.val = t.val * 128 + c.val
    rw [(idx1 t).2]; omega

/-- The block of zero words likewise. -/
theorem iblk2_apply (d : Dev nD) (t : Fin cfg0.N) (g : Fin 160) (c : Fin 128) :
    (iblk m d 2 t : S160x128.Idx → BitVec 32) (ix2 g c) = V m d main_v11 (ix2 g (out t c)) := by
  unfold iblk
  rw [View.read_apply]
  refine congrArg (V m d main_v11) (funext fun a => Fin.ext ?_)
  match a with
  | ⟨0, _⟩ =>
    show win0_2.index t 0 * 160 + 1 * g.val = g.val
    rw [(idx2 t).1]; omega
  | ⟨1, _⟩ =>
    show win0_2.index t 1 * 128 + 1 * c.val = t.val * 128 + c.val
    rw [(idx2 t).2]; omega

/-- The block of slots is slab `t`. -/
theorem iblk3_apply (d : Dev nD) (t : Fin cfg0.N) (j : Fin 80) (c : Fin 128) :
    (iblk m d 3 t : S1x80x128.Idx → BitVec 32) (ix3 0 j c) = m ((d.tc : Thread nD τ).loc main_arg3) (ix3 (⟨t.val, t_lt t⟩ : Fin 76) j c) := by
  rw [← V_main_arg3 m d]
  unfold iblk
  rw [View.read_apply]
  refine congrArg (V m d main_arg3) (funext fun a => Fin.ext ?_)
  match a with
  | ⟨0, _⟩ =>
    show win0_3.index t 0 * 1 + 1 * 0 = t.val
    rw [(idx3 t).1]; omega
  | ⟨1, _⟩ =>
    show win0_3.index t 1 * 80 + 1 * j.val = j.val
    rw [(idx3 t).2.1]; omega
  | ⟨2, _⟩ =>
    show win0_3.index t 2 * 128 + 1 * c.val = c.val
    rw [(idx3 t).2.2]; omega

/-! ## The result -/

/-- `G` of core `d`'s arguments. -/
abbrev GA (d : Dev nD) : S2560x9728.Idx → EReal :=
  G (m ((d.tc : Thread nD τ).loc main_arg0)) (m ((d.tc : Thread nD τ).loc main_arg1)) (m ((d.tc : Thread nD τ).loc main_arg2)) (m ((d.tc : Thread nD τ).loc main_arg3))

/-- Entry (R, c) of block `t` is entry (R, output c of the block) of `G`. -/
theorem block_apply (hpre : Cert.Pre_PrepIdeal_slot_words (hPre_slot_words := Cert.Pre_slot_words.Gen.facts) m) (d : Dev nD) (t : Fin cfg0.N) (R : Fin 2560) (c : Fin 128) :
    outAt (F := Ideal) (iblk m d 0 t) (iblk m d 1 t) (iblk m d 2 t) (iblk m d 3 t) (ix2 R c) = GA m d (ix2 R (out t c)) := by
  obtain ⟨hz, hs⟩ := pre_iff _ _ _ _ (hpre d)
  have ht := t_lt t
  have hd : dqY (F := Ideal) (iblk m d 0 t) (iblk m d 1 t) (iblk m d 2 t) (ix2 R c)
      = fill (m ((d.tc : Thread nD τ).loc main_arg0)) (m ((d.tc : Thread nD τ).loc main_arg1)) (m ((d.tc : Thread nD τ).loc main_arg2)) R (out t c) :=
    dqAt_eq _ _ _ _ _ _ R (out t c) c (fun b => iblk0_apply m d t c b) (fun g => (iblk1_apply m d t g c).trans (V_scale m d g _))
      (fun g => (iblk2_apply m d t g c).trans (V_zero m d g _)) (fun g => hz _)
  have hp := ptAt_eq (iblk m d 3 t) (m ((d.tc : Thread nD τ).loc main_arg3)) R (out t c) c (fun j => (iblk3_apply m d t j c).trans
    (congrArg (m ((d.tc : Thread nD τ).loc main_arg3)) (congrArg₂ (fun (a : Fin 76) (b : Fin 128) => ix3 a j b)
      (Fin.ext (by show t.val = (t.val * 128 + c.val) / 128; omega)) (Fin.ext (by show c.val = (t.val * 128 + c.val) % 128; omega))))) hs
    (dqY (F := Ideal) (iblk m d 0 t) (iblk m d 1 t) (iblk m d 2 t) (ix2 R c)) 40 (Nat.le_refl 40)
  exact hp.trans (by rw [hd]; rfl)

/-- What point `t` writes back is `G` on its block. -/
theorem flushed_eq (hpre : Cert.Pre_PrepIdeal_slot_words (hPre_slot_words := Cert.Pre_slot_words.Gen.facts) m) (d : Dev nD) (t : Fin cfg0.N) :
    (dats m 0 d).flushed 4 t = ((cfg0.win 4).blk t).view.read (Elt Ideal) (GA m d) := by
  show (win0_4.cut (α := Elt Ideal .bf16) (grid0.coords t) ((dats m 0 d).after 4 t)) = _
  rw [after4]
  funext j
  show outAt (F := Ideal) (iblk m d 0 t) (iblk m d 1 t) (iblk m d 2 t) (iblk m d 3 t) (win0_4.xinj (grid0.coords t) j) = _
  have hj : (win0_4.xinj (grid0.coords t) j : S2560x128.Idx) = ix2 (⟨(j 0).val, (j 0).isLt⟩ : Fin 2560) (⟨(j 1).val, (j 1).isLt⟩ : Fin 128) := by
    funext a; apply Fin.ext
    match a with
    | ⟨0, _⟩ => rfl
    | ⟨1, _⟩ => rfl
  rw [hj, View.read_apply]
  refine (block_apply m hpre d t _ _).trans (congrArg (GA m d) (funext fun a => Fin.ext ?_))
  match a with
  | ⟨0, _⟩ =>
    show (j 0).val = win0_4.index t 0 * 2560 + 1 * (j 0).val
    rw [(idx4 t).1]; omega
  | ⟨1, _⟩ =>
    show t.val * 128 + (j 1).val = win0_4.index t 1 * 128 + 1 * (j 1).val
    rw [(idx4 t).2]; omega

/-- Every index of the result lies in some point's block. -/
theorem cover_out (i : S2560x9728.Idx) : ∃ t : Fin cfg0.N, (cfg0.win 4).flush t = true ∧ i ∈ ((cfg0.win 4).blk t).view.set := by
  have h0 : (i 0).val < 2560 := (i 0).isLt
  have h1 : (i 1).val < 9728 := (i 1).isLt
  let t : Fin grid0.N := ⟨(i 1).val / 128, by rw [N_0]; omega⟩
  refine ⟨t, flush0_4 t, ?_⟩
  show i ∈ ((View.whole main_v12).slice (win0_4.rect t)).set
  rw [View.set_slice_whole, Rect.mem_set_unit]
  have ht : t.val = (i 1).val / 128 := rfl
  intro a
  match a with
  | ⟨0, _⟩ =>
    show win0_4.index t 0 * 2560 ≤ (i 0).val ∧ (i 0).val < win0_4.index t 0 * 2560 + 2560
    rw [(idx4 t).1]; omega
  | ⟨1, _⟩ =>
    show win0_4.index t 1 * 128 ≤ (i 1).val ∧ (i 1).val < win0_4.index t 1 * 128 + 128
    rw [(idx4 t).2, ht]; omega

/-- The result after the run: `G` of the arguments, which stay. -/
theorem run_G (hpre : Cert.Pre_PrepIdeal_slot_words (hPre_slot_words := Cert.Pre_slot_words.Gen.facts) m) :
    θ_run defs (onTc (τ := τ) (main (F := Ideal))) ⟨m, fun _ => 0, ρ⟩ (fun r => ∀ c : Dev nD,
      r.2.mem ((c.tc : Thread nD τ).loc main_v12) = GA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 4).trans ((dats m 0 c).arrAt_eq_of_cover 4 _ (fun t _ => flushed_eq m hpre c t) cover_out),
     ((h.1 c).1 0).trans (((dats m 0 c).arrAt_in 0 rfl _).trans ((A_eq m c 0).trans (V_main_arg0 m c))),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).1 3).trans (((dats m 0 c).arrAt_in 3 rfl _).trans ((A_eq m c 3).trans (V_main_arg3 m c)))⟩)
    (run m ρ)

end Cert.PrepIdeal.Value

end
-- ==== Proof.PrepRef.lean ====
/-
  The reference at the ideal values: its stacked nibbles, its scatter, and that they make `PrepMath.G`.
-/
module

public import proofs.«01_k».proof.Proof.PrepMath
public import proofs.«01_k».proof.Proof.Gen.PrepReferenceIdeal.Run
public import Idealize.ShloMosaic.Lib.Pipeline.Value
public import Idealize.ShloMosaic.Lib.Routing.OpsPair

@[expose] public section

set_option maxRecDepth 16384

noncomputable section

namespace Cert.PrepReferenceIdeal.Ref

open Cert.PrepReferenceIdeal Cert.PrepReferenceIdeal.Gen Cert.PrepMath
open Idealize.ShloMosaic Idealize.ShloMosaic.TcCoe Idealize.SL.Sem Idealize.ShloMosaic.StableHlo Idealize.ShloMosaic.ValueIdx
open Idealize.ShloMosaic.ScatterToDense Idealize.ShloMosaic.Routing

variable (a0 : IVec S9728x1280 8) (a1 : IVec S9728x160 16) (a2 : IVec S9728x160 8) (a3 : IVec S76x80x128 32)

/-! ## The reference's pieces -/

/-- The two nibbles of every byte, stacked. -/
def codesT : IVec S9728x1280x2 32 :=
  concatenate S9728x1280x2 2 [⟨S9728x1280x1, (broadcastInDim S9728x1280x1 ![0, 1] bcast_S9728x1280_S9728x1280x1_0_1 (andi (extui 32 a0 natLt_8_32) (broadcastInDim S9728x1280 ![] bcast_S_S9728x1280 (constantI S_ 32 15#32))))⟩, ⟨S9728x1280x1, (broadcastInDim S9728x1280x1 ![0, 1] bcast_S9728x1280_S9728x1280x1_0_1 (Host.shrsi (extui 32 a0 natLt_8_32) (broadcastInDim S9728x1280 ![] bcast_S_S9728x1280 (constantI S_ 32 4#32))))⟩] concatenates_S9728x1280x1_S9728x1280x1_S9728x1280x2_d2

/-- (code - zero) * scale. -/
def fillT : FVec Ideal S9728x2560 .bf16 :=
  shapeCast _ (mulf (subf (sitofp .bf16 (shapeCast _ (codesT a0) shapeCasts_S9728x1280x2_S9728x160x16)) (broadcastInDim S9728x160x16 ![0, 1, 2] bcast_S9728x160x1_S9728x160x16_0_1_2 (broadcastInDim S9728x160x1 ![0, 1] bcast_S9728x160_S9728x160x1_0_1 (sitofp .bf16 (extui 32 a2 natLt_8_32))))) (broadcastInDim S9728x160x16 ![0, 1, 2] bcast_S9728x160x1_S9728x160x16_0_1_2 (broadcastInDim S9728x160x1 ![0, 1] bcast_S9728x160_S9728x160x1_0_1 (bitcastToFloat (F := Ideal) .bf16 a1)))) shapeCasts_S9728x160x16_S9728x2560

/-- The low halves of the slot words, a row of 80 for each output. -/
def slotsT : IVec S9728x80 32 :=
  shapeCast _ (transpose S76x128x80 [0, 2, 1] (andi a3 (broadcastInDim S76x80x128 ![] bcast_S_S76x80x128 (constantI S_ 32 65535#32))) transposes_S76x80x128_S76x128x80_0_2_1) shapeCasts_S76x128x80_S9728x80

/-- The index pairs of the scatter. -/
def idxT : IVec S9728x40x2 32 :=
  concatenate S9728x40x2 2 [⟨S9728x40x1, (broadcastInDim S9728x40x1 ![0, 1] bcast_S9728x40_S9728x40x1_0_1 (broadcastInDim S9728x40 ![0, 1] bcast_S9728x1_S9728x40_0_1 (select (cmpi .slt (broadcastInDim S9728x1 ![0] bcast_S9728_S9728x1_0 (iotaInDim S9728 32 0)) (broadcastInDim S9728x1 ![] bcast_S_S9728x1 (constantI S_ 32 0#32))) (addi (broadcastInDim S9728x1 ![0] bcast_S9728_S9728x1_0 (iotaInDim S9728 32 0)) (broadcastInDim S9728x1 ![] bcast_S_S9728x1 (constantI S_ 32 9728#32))) (broadcastInDim S9728x1 ![0] bcast_S9728_S9728x1_0 (iotaInDim S9728 32 0)))))⟩, ⟨S9728x40x1, (broadcastInDim S9728x40x1 ![0, 1] bcast_S9728x40_S9728x40x1_0_1 (select (cmpi .slt (extractStridedSlice S9728x40 ![0, 0] (slotsT a3) slices_S9728x80_S9728x40_0_0) (broadcastInDim S9728x40 ![] bcast_S_S9728x40 (constantI S_ 32 0#32))) (addi (extractStridedSlice S9728x40 ![0, 0] (slotsT a3) slices_S9728x80_S9728x40_0_0) (broadcastInDim S9728x40 ![] bcast_S_S9728x40 (constantI S_ 32 2560#32))) (extractStridedSlice S9728x40 ![0, 0] (slotsT a3) slices_S9728x80_S9728x40_0_0)))⟩] concatenates_S9728x40x1_S9728x40x1_S9728x40x2_d2

/-- The values of the scatter. -/
def updT : FVec Ideal S9728x40 .bf16 :=
  bitcastToFloat (F := Ideal) .bf16 (trunci 16 (extractStridedSlice S9728x40 ![0, 40] (slotsT a3) slices_S9728x80_S9728x40_0_40) natLt_16_32)

/-- The reference's result. -/
def outT : FVec Ideal S2560x9728 .bf16 :=
  transpose S2560x9728 [1, 0] (Host.scatter scatter_S9728x2560_S9728x40x2_S9728x40_n_01_01_2 (fun _ b => b) (fillT a0 a1 a2) (idxT a3) (updT a3))
    transposes_S9728x2560_S2560x9728_1_0

/-! ## Each piece at an index -/

/-- The low nibble, read signed. -/
theorem lo_toInt (b : BitVec 8) : (IntOp.andi (b.setWidth 32) 15#32).toInt = (code b 0 : ℤ) :=
  (by decide +kernel : ∀ k : Fin 256, (IntOp.andi ((BitVec.ofFin k : BitVec 8).setWidth 32) 15#32).toInt = (code (BitVec.ofFin k) 0 : ℤ)) b.toFin

/-- The high nibble, read signed. -/
theorem hi_toInt (b : BitVec 8) : (IntOp.shrsi .host (b.setWidth 32) 4#32).toInt = (code b 1 : ℤ) :=
  (by decide +kernel : ∀ k : Fin 256, (IntOp.shrsi .host ((BitVec.ofFin k : BitVec 8).setWidth 32) 4#32).toInt = (code (BitVec.ofFin k) 1 : ℤ)) b.toFin

/-- A widened byte, read signed, is the byte. -/
theorem zero_toInt (b : BitVec 8) : (b.setWidth 32).toInt = (b.toNat : ℤ) :=
  (by decide +kernel : ∀ k : Fin 256, ((BitVec.ofFin k : BitVec 8).setWidth 32).toInt = (k.val : ℤ)) b.toFin

/-- A column of single words read at its only place. -/
theorem bcast1 {n k : ℕ} {w : ℕ} (h : (⟨2, ![n, k]⟩ : Shape).BroadcastsInDim ⟨3, ![n, k, 1]⟩ ![0, 1]) (x : IVec ⟨2, ![n, k]⟩ w) (i : Fin n) (j : Fin k) (hn : n ≠ 1) (hk : k ≠ 1) :
    broadcastInDim ⟨3, ![n, k, 1]⟩ ![0, 1] h x (ix3 i j 0) = x (ix2 i j) :=
  broadcastInDim_apply _ _ _ _ _ fun a => by
    match a with
    | ⟨0, _⟩ => exact (if_neg hn).symm
    | ⟨1, _⟩ => exact (if_neg hk).symm

/-- The stacked nibbles at (n, b, p), read signed. -/
theorem codesT_apply (n : Fin 9728) (b : Fin 1280) (p : Fin 2) : (codesT a0 (ix3 n b p)).toInt = (code (a0 (ix2 n b)) p.val : ℤ) := by
  unfold codesT
  fin_cases p
  · refine (congrArg BitVec.toInt ((concatenate_pair_apply_left (t := S9728x1280x2) (s₁ := S9728x1280x1) (s₂ := S9728x1280x1) 2 _ _ _ _ rfl (ix3 n b 0)
      (fun a => by fin_cases a <;> rfl)).trans (bcast1 _ _ n b (by decide) (by decide)))).trans (lo_toInt _)
  · refine (congrArg BitVec.toInt ((concatenate_pair_apply_right (t := S9728x1280x2) (s₁ := S9728x1280x1) (s₂ := S9728x1280x1) 2 _ _ _ _ rfl rfl (ix3 n b 0)
      (fun a => by fin_cases a <;> first | (intro _; rfl) | (intro h; exact absurd rfl h)) rfl).trans (bcast1 _ _ n b (by decide) (by decide)))).trans (hi_toInt _)

/-- A group's number spread over its 16 columns. -/
theorem bcast16 (x : FVec Ideal S9728x160 .bf16) (n : Fin 9728) (g : Fin 160) (k : Fin 16) :
    (broadcastInDim S9728x160x16 ![0, 1, 2] bcast_S9728x160x1_S9728x160x16_0_1_2 (broadcastInDim S9728x160x1 ![0, 1] bcast_S9728x160_S9728x160x1_0_1 x)) (ix3 n g k)
      = x (ix2 n g) :=
  (broadcastInDim_apply (s := S9728x160x1) _ _ _ _ (ix3 n g 0) fun a => by
    match a with
    | ⟨0, _⟩ => exact (if_neg (by decide : ¬(9728 : ℕ) = 1)).symm
    | ⟨1, _⟩ => exact (if_neg (by decide : ¬(160 : ℕ) = 1)).symm
    | ⟨2, _⟩ => exact (if_pos rfl).symm).trans
  (broadcastInDim_apply (s := S9728x160) _ _ _ _ (ix2 n g) fun a => by
    match a with
    | ⟨0, _⟩ => exact (if_neg (by decide : ¬(9728 : ℕ) = 1)).symm
    | ⟨1, _⟩ => exact (if_neg (by decide : ¬(160 : ℕ) = 1)).symm)

/-- The dequantised weights at (n, R). -/
theorem fillT_apply (R : Fin 2560) (n : Fin 9728) : (fillT a0 a1 a2 : S9728x2560.Idx → EReal) (ix2 n R) = fill a0 a1 a2 R n := by
  unfold fillT
  refine (shapeCast_apply (s := S9728x160x16) _ _ _ (ix3 n (⟨R.val / 16, by omega⟩ : Fin 160) (⟨R.val % 16, Nat.mod_lt _ (by decide)⟩ : Fin 16)) ?_).trans ?_
  · rw [Shape.rowMajor_val_three, Shape.rowMajor_val_two]
    show (n.val * 160 + R.val / 16) * 16 + R.val % 16 = n.val * 2560 + R.val
    omega
  unfold fill
  have hc : shapeCast S9728x160x16 (codesT a0) shapeCasts_S9728x1280x2_S9728x160x16 (ix3 n (⟨R.val / 16, by omega⟩ : Fin 160) (⟨R.val % 16, Nat.mod_lt _ (by decide)⟩ : Fin 16))
      = codesT a0 (ix3 n (⟨R.val / 2, by omega⟩ : Fin 1280) (⟨R.val % 2, Nat.mod_lt _ (by decide)⟩ : Fin 2)) := by
    refine shapeCast_apply (s := S9728x1280x2) _ _ _ _ ?_
    rw [Shape.rowMajor_val_three, Shape.rowMajor_val_three]
    show (n.val * 1280 + R.val / 2) * 2 + R.val % 2 = (n.val * 160 + R.val / 16) * 16 + R.val % 16
    omega
  refine congrArg₂ (fun a b : EReal => a * b) (congrArg₂ (fun a b : EReal => a - b) ?_ ?_) ?_
  · show (((shapeCast S9728x160x16 (codesT a0) shapeCasts_S9728x1280x2_S9728x160x16 (ix3 n _ _)).toInt : ℝ) : EReal) = _
    rw [hc, codesT_apply, Int.cast_natCast]
  · refine (bcast16 _ n _ _).trans ?_
    show ((((a2 (ix2 n (⟨R.val / 16, by omega⟩ : Fin 160))).setWidth 32).toInt : ℝ) : EReal) = _
    rw [zero_toInt, Int.cast_natCast]
  · exact bcast16 _ n _ _

/-- The slots at (n, j): the low half of the word. -/
theorem slotsT_apply (n : Fin 9728) (j : Fin 80) : slotsT a3 (ix2 n j) = word a3 n j.val := by
  unfold slotsT word
  rw [dif_pos j.isLt]
  refine (shapeCast_apply (s := S76x128x80) _ _ _ (ix3 (⟨n.val / 128, by omega⟩ : Fin 76) (⟨n.val % 128, Nat.mod_lt _ (by decide)⟩ : Fin 128) j) ?_).trans ?_
  · rw [Shape.rowMajor_val_three, Shape.rowMajor_val_two]
    show (n.val / 128 * 128 + n.val % 128) * 80 + j.val = n.val * 80 + j.val
    omega
  refine (transpose_apply (s := S76x80x128) _ _ _ _ (ix3 (⟨n.val / 128, by omega⟩ : Fin 76) j (⟨n.val % 128, Nat.mod_lt _ (by decide)⟩ : Fin 128)) (fun a => by fin_cases a <;> rfl)).trans ?_
  rfl

/-- A low half is not negative. -/
theorem word_lt (n : Fin 9728) (j : ℕ) : (word a3 n j).toNat < 2 ^ 31 := by
  unfold word
  split
  · show (_ &&& 65535#32).toNat < _
    rw [BitVec.toNat_and]
    exact Nat.lt_of_le_of_lt Nat.and_le_right (by decide)
  · decide

/-- The first 40 slots are the row numbers. -/
theorem rows_apply (n : Fin 9728) (j : Fin 40) :
    extractStridedSlice S9728x40 ![0, 0] (slotsT a3) slices_S9728x80_S9728x40_0_0 (ix2 n j) = word a3 n j.val :=
  (extractStridedSlice_apply (s := S9728x80) _ _ _ _ (ix2 n (⟨j.val, by omega⟩ : Fin 80)) (fun a => by
    match a with
    | ⟨0, _⟩ => exact (Nat.zero_add _).symm
    | ⟨1, _⟩ => exact (Nat.zero_add _).symm)).trans (slotsT_apply a3 n _)

/-- The last 40 slots are the patterns. -/
theorem updT_apply (n : Fin 9728) (j : Fin 40) :
    (updT a3 : S9728x40.Idx → EReal) (ix2 n j) = Ideal.ofBits .bf16 ((word a3 n (40 + j.val)).setWidth 16) := by
  unfold updT
  refine congrArg (fun v : BitVec 32 => Ideal.ofBits .bf16 (v.setWidth 16)) ?_
  exact (extractStridedSlice_apply (s := S9728x80) _ _ _ _ (ix2 n (⟨40 + j.val, by omega⟩ : Fin 80)) (fun a => by
    match a with
    | ⟨0, _⟩ => exact (Nat.zero_add _).symm
    | ⟨1, _⟩ => rfl)).trans (slotsT_apply a3 n _)

/-- The first word of an index pair is the output's number. -/
theorem idxT_tok (n : Fin 9728) (j : Fin 40) : idxT a3 (ix3 n j (0 : Fin 2)) = BitVec.ofNat 32 n.val := by
  unfold idxT
  refine (concatenate_pair_apply_left (t := S9728x40x2) (s₁ := S9728x40x1) (s₂ := S9728x40x1) 2 _ _ _ _ rfl (ix3 n j 0)
      (fun a => by fin_cases a <;> rfl)).trans ((bcast1 _ _ n j (by decide) (by decide)).trans ?_)
  refine (broadcastInDim_apply (s := S9728x1) _ _ _ _ (ix2 n 0) fun a => by
    match a with
    | ⟨0, _⟩ => exact (if_neg (by decide : ¬(9728 : ℕ) = 1)).symm
    | ⟨1, _⟩ => exact (if_pos rfl).symm).trans ?_
  have e : broadcastInDim S9728x1 ![0] bcast_S9728_S9728x1_0 (iotaInDim S9728 32 0) (ix2 n 0) = BitVec.ofNat 32 n.val :=
    broadcastInDim_apply (s := S9728) _ _ _ _ (ix1 n) fun a => by
      match a with
      | ⟨0, _⟩ => exact (if_neg (by decide : ¬(9728 : ℕ) = 1)).symm
  show Scalar.select (IntOp.cmpi .slt (broadcastInDim S9728x1 ![0] bcast_S9728_S9728x1_0 (iotaInDim S9728 32 0) (ix2 n 0)) 0#32) _
    (broadcastInDim S9728x1 ![0] bcast_S9728_S9728x1_0 (iotaInDim S9728 32 0) (ix2 n 0)) = _
  rw [e]
  exact wrap_of_lt _ _ (by rw [BitVec.toNat_ofNat]; have := n.isLt; omega)

/-- The second word of an index pair is the row number. -/
theorem idxT_word (n : Fin 9728) (j : Fin 40) : idxT a3 (ix3 n j (1 : Fin 2)) = word a3 n j.val := by
  unfold idxT
  refine (concatenate_pair_apply_right (t := S9728x40x2) (s₁ := S9728x40x1) (s₂ := S9728x40x1) 2 _ _ _ _ rfl rfl (ix3 n j 0)
      (fun a => by fin_cases a <;> first | (intro _; rfl) | (intro h; exact absurd rfl h)) rfl).trans ((bcast1 _ _ n j (by decide) (by decide)).trans ?_)
  have e := rows_apply a3 n j
  show Scalar.select (IntOp.cmpi .slt (extractStridedSlice S9728x40 ![0, 0] (slotsT a3) slices_S9728x80_S9728x40_0_0 (ix2 n j)) 0#32) _
    (extractStridedSlice S9728x40 ![0, 0] (slotsT a3) slices_S9728x80_S9728x40_0_0 (ix2 n j)) = _
  rw [e]
  exact wrap_of_lt _ _ (word_lt a3 n j.val)

/-- The reference's result is `G` of its arguments. -/
theorem outT_eq : (outT a0 a1 a2 a3 : S2560x9728.Idx → EReal) = G a0 a1 a2 a3 := by
  funext y
  obtain ⟨R, n, rfl⟩ : ∃ (R : Fin 2560) (n : Fin 9728), y = ix2 R n := ⟨y 0, y 1, eq_ix2 y⟩
  unfold outT
  refine (transpose_apply (s := S9728x2560) _ _ _ _ (ix2 n R) (fun a => by fin_cases a <;> rfl)).trans ?_
  refine (scatter_eq_GS (α := EReal) scatter_S9728x2560_S9728x40x2_S9728x40_n_01_01_2 rfl rfl rfl (by decide) (by decide) (fillT a0 a1 a2) (idxT a3) (updT a3)
    (fun i => word a3 i) (fun i k => Ideal.ofBits .bf16 ((word a3 i (40 + k)).setWidth 16)) (idxT_tok a3) (idxT_word a3) (updT_apply a3) n R).trans ?_
  rw [fillT_apply]
  rfl

end Cert.PrepReferenceIdeal.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Loops
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Loops
public import proofs.«01_k».proof.Proof.Gen.PrepIdeal.Frame
public import proofs.«01_k».proof.Proof.Gen.PrepReferenceIdeal
public import proofs.«01_k».proof.Proof.Gen.PrepReferenceIdeal.Run
public import proofs.«01_k».proof.Proof.Gen.Pre_slot_words
public import proofs.«01_k».proof.Proof.KernelTile
public import proofs.«01_k».proof.Proof.KernelIdealTile
public import proofs.«01_k».proof.Proof.Value
public import proofs.«01_k».proof.Proof.PrepTile
public import proofs.«01_k».proof.Proof.PrepIdealTile
public import proofs.«01_k».proof.Proof.PrepValue
public import proofs.«01_k».proof.Proof.PrepRef
public import Idealize.ShloMosaic.Adequacy
public import Idealize.ShloMosaic.Init

@[expose] public section

noncomputable section

namespace Cert.Proof

open Idealize.ShloMosaic Idealize.SL.Sem Cert.Kernel

/-- The frame of the reference: its run, read at the arguments; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value claim: from arguments that agree, kernel and reference both end at the sums `G` of the arguments. -/
theorem algebraic : Cert.algebraic_KernelIdeal_ReferenceIdeal := by
  intro m ρ m' ρ' _ hagree
  refine ⟨fun c => Cert.KernelIdeal.Value.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelIdeal.Value.run_G m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.KernelIdeal.Value.ref_eq _ _

/-- The frame of the preparation's reference: likewise. -/
theorem frame_si : Cert.quiescent_PrepReferenceIdeal := fun m ρ _ =>
  (θ_run Cert.PrepReferenceIdeal.defs _ _).mono (fun r h => ⟨fun c => (h c).2, sem_eq_zero_of_no_sems (by decide) r.2⟩)
    (Cert.PrepReferenceIdeal.Value.run (F := Ideal) m ρ)

/-- The preparation's value claim: from arguments that agree and meet the precondition, kernel and reference both end at the array `G` of the arguments. -/
theorem algebraic_prep : Cert.algebraic_PrepIdeal_PrepReferenceIdeal_pre_slot_words (hPre_slot_words := Cert.Pre_slot_words.Gen.facts) := by
  intro m ρ m' ρ' hpre hagree
  refine ⟨fun c => Cert.PrepIdeal.Value.GA m c, Cert.PrepIdeal.Value.run_G m ρ hpre, ?_⟩
  refine (θ_run Cert.PrepReferenceIdeal.defs _ _).mono (fun _ h c => ⟨(h c).1.trans ?_, (h c).2⟩)
    (Cert.PrepReferenceIdeal.Value.run (F := Ideal) m' ρ')
  rw [(hagree c).1, (hagree c).2.1, (hagree c).2.2.1, (hagree c).2.2.2]
  exact Cert.PrepReferenceIdeal.Ref.outT_eq _ _ _ _

/-- All the claims together. -/
theorem claim : Cert.Claim := ⟨Cert.Kernel.Gen.facts, Cert.KernelIdeal.Gen.facts, Cert.ReferenceIdeal.Gen.facts,
  Cert.Prep.Gen.facts, Cert.PrepIdeal.Gen.facts, Cert.PrepReferenceIdeal.Gen.facts, Cert.Pre_slot_words.Gen.facts,
  fun m ρ _ => Cert.Kernel.Tile.frame_holds m ρ, fun m ρ _ => Cert.KernelIdeal.Tile.frame_holds m ρ, frame_ri,
  fun m ρ _ => Cert.Prep.Tile.frame_holds m ρ, fun m ρ _ => Cert.PrepIdeal.Tile.frame_holds m ρ, fun m ρ _ => Cert.PrepIdeal.Tile.frame_holds m ρ,
  frame_si, fun m ρ _ => frame_si m ρ trivial, trivial, algebraic, trivial, algebraic_prep⟩

end Cert.Proof

end
